-- ==== Defs.lean ====
def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_finite [hPre_finite : Cert.Pre_finite.Facts] (m : (ℓ : Loc Cert.QuantIdeal.nD Cert.QuantIdeal.τ Cert.QuantIdeal.sig) → Buf (Elt Ideal) ℓ) : Prop :=
  ∀ c : Dev Cert.QuantIdeal.nD,
    (Cert.Pre_finite.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1)) (m ((c.tc : Thread Cert.QuantIdeal.nD Cert.QuantIdeal.τ).loc Cert.QuantIdeal.main_arg2)) (m ((c.tc : Thread Cert.QuantIdeal.nD Cert.QuantIdeal.τ).loc Cert.QuantIdeal.main_arg3))) = (fun _ => 1#1)

def Pre_QuantRefIdeal (m : (ℓ : Loc Cert.QuantRefIdeal.nD Cert.QuantRefIdeal.τ Cert.QuantRefIdeal.sig) → Buf (Elt Ideal) ℓ) : Prop :=
  True

def Pre_QuantRefIdeal_finite [hPre_finite : Cert.Pre_finite.Facts] (m : (ℓ : Loc Cert.QuantRefIdeal.nD Cert.QuantRefIdeal.τ Cert.QuantRefIdeal.sig) → Buf (Elt Ideal) ℓ) : Prop :=
  ∀ c : Dev Cert.QuantRefIdeal.nD,
    (Cert.Pre_finite.fn (F := Ideal) (m ((c.tc : Thread Cert.QuantRefIdeal.nD Cert.QuantRefIdeal.τ).loc Cert.QuantRefIdeal.main_arg0)) (m ((c.tc : Thread Cert.QuantRefIdeal.nD Cert.QuantRefIdeal.τ).loc Cert.QuantRefIdeal.main_arg1)) (m ((c.tc : Thread Cert.QuantRefIdeal.nD Cert.QuantRefIdeal.τ).loc Cert.QuantRefIdeal.main_arg2)) (m ((c.tc : Thread Cert.QuantRefIdeal.nD Cert.QuantRefIdeal.τ).loc Cert.QuantRefIdeal.main_arg3))) = (fun _ => 1#1)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ r.2.sem = fun _ => 0)

def quiescent_QuantIdeal_pre_finite [hQuantIdeal : Cert.QuantIdeal.Facts] [hPre_finite : Cert.Pre_finite.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_finite m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1)
      ∧ r.2.mem ((c.tc : Thread Cert.QuantRefIdeal.nD Cert.QuantRefIdeal.τ).loc Cert.QuantRefIdeal.main_arg2) = m ((c.tc : Thread Cert.QuantRefIdeal.nD Cert.QuantRefIdeal.τ).loc Cert.QuantRefIdeal.main_arg2)
      ∧ r.2.mem ((c.tc : Thread Cert.QuantRefIdeal.nD Cert.QuantRefIdeal.τ).loc Cert.QuantRefIdeal.main_arg3) = m ((c.tc : Thread Cert.QuantRefIdeal.nD Cert.QuantRefIdeal.τ).loc Cert.QuantRefIdeal.main_arg3))
      ∧ r.2.sem = fun _ => 0)

def quiescent_QuantRefIdeal_pre_finite [hQuantRefIdeal : Cert.QuantRefIdeal.Facts] [hPre_finite : Cert.Pre_finite.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal_finite m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1)
      ∧ r.2.mem ((c.tc : Thread Cert.QuantRefIdeal.nD Cert.QuantRefIdeal.τ).loc Cert.QuantRefIdeal.main_arg2) = m ((c.tc : Thread Cert.QuantRefIdeal.nD Cert.QuantRefIdeal.τ).loc Cert.QuantRefIdeal.main_arg2)
      ∧ r.2.mem ((c.tc : Thread Cert.QuantRefIdeal.nD Cert.QuantRefIdeal.τ).loc Cert.QuantRefIdeal.main_arg3) = m ((c.tc : Thread Cert.QuantRefIdeal.nD Cert.QuantRefIdeal.τ).loc Cert.QuantRefIdeal.main_arg3))
      ∧ r.2.sem = fun _ => 0)

def preserves_Dgrad_DgradIdeal : Prop :=
  True

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)
      ∧ m' ((c.tc : Thread Cert.DgradRefIdeal.nD Cert.DgradRefIdeal.τ).loc Cert.DgradRefIdeal.main_arg2) = m ((c.tc : Thread Cert.DgradIdeal.nD Cert.DgradIdeal.τ).loc Cert.DgradIdeal.main_arg2)) →
    ∃ (v0 : (c : Dev Cert.DgradIdeal.nD) → Buf (Elt Ideal) ((c.tc : Thread Cert.DgradIdeal.nD Cert.DgradIdeal.τ).loc Cert.DgradIdeal.main_v0)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v4) = v0 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1)
          ∧ r.2.mem ((c.tc : Thread Cert.DgradRefIdeal.nD Cert.DgradRefIdeal.τ).loc Cert.DgradRefIdeal.main_arg2) = m' ((c.tc : Thread Cert.DgradRefIdeal.nD Cert.DgradRefIdeal.τ).loc Cert.DgradRefIdeal.main_arg2))

def preserves_Quant_QuantIdeal : Prop :=
  IdealRules.named_const.Statement Cert.QuantIdeal.κ "log2_theta" .f32 0x41549A78#32 (((Real.log 10000) * (Real.log 2)⁻¹ : ℝ) : EReal)
  ∧ IdealRules.bf16_pair.Statement Cert.QuantIdeal.S128x2x128 Cert.QuantIdeal.S128x1x128
  ∧ IdealRules.bf16_pair.Statement Cert.QuantIdeal.S256x128 Cert.QuantIdeal.S128x128

def algebraic_QuantIdeal_QuantRefIdeal_pre_finite [hQuantIdeal : Cert.QuantIdeal.Facts] [hQuantRefIdeal : Cert.QuantRefIdeal.Facts] [hPre_finite : Cert.Pre_finite.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal_finite m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)
      ∧ m' ((c.tc : Thread Cert.QuantRefIdeal.nD Cert.QuantRefIdeal.τ).loc Cert.QuantRefIdeal.main_arg2) = m ((c.tc : Thread Cert.QuantIdeal.nD Cert.QuantIdeal.τ).loc Cert.QuantIdeal.main_arg2)
      ∧ m' ((c.tc : Thread Cert.QuantRefIdeal.nD Cert.QuantRefIdeal.τ).loc Cert.QuantRefIdeal.main_arg3) = m ((c.tc : Thread Cert.QuantIdeal.nD Cert.QuantIdeal.τ).loc Cert.QuantIdeal.main_arg3)) →
    ∃ (v0 : (c : Dev Cert.QuantIdeal.nD) → Buf (Elt Ideal) ((c.tc : Thread Cert.QuantIdeal.nD Cert.QuantIdeal.τ).loc Cert.QuantIdeal.main_v4_0)) (v1 : (c : Dev Cert.QuantIdeal.nD) → Buf (Elt Ideal) ((c.tc : Thread Cert.QuantIdeal.nD Cert.QuantIdeal.τ).loc Cert.QuantIdeal.main_v4_1)) (v2 : (c : Dev Cert.QuantIdeal.nD) → Buf (Elt Ideal) ((c.tc : Thread Cert.QuantIdeal.nD Cert.QuantIdeal.τ).loc Cert.QuantIdeal.main_v4_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v4_0) = v0 c
          ∧ r.2.mem ((c.tc : Thread Cert.QuantIdeal.nD Cert.QuantIdeal.τ).loc Cert.QuantIdeal.main_v4_1) = v1 c
          ∧ r.2.mem ((c.tc : Thread Cert.QuantIdeal.nD Cert.QuantIdeal.τ).loc Cert.QuantIdeal.main_v4_2) = v2 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v82_0) = v0 c
          ∧ r.2.mem ((c.tc : Thread Cert.QuantRefIdeal.nD Cert.QuantRefIdeal.τ).loc Cert.QuantRefIdeal.main_v81) = v1 c
          ∧ r.2.mem ((c.tc : Thread Cert.QuantRefIdeal.nD Cert.QuantRefIdeal.τ).loc Cert.QuantRefIdeal.main_v82_1) = v2 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1)
          ∧ r.2.mem ((c.tc : Thread Cert.QuantRefIdeal.nD Cert.QuantRefIdeal.τ).loc Cert.QuantRefIdeal.main_arg2) = m' ((c.tc : Thread Cert.QuantRefIdeal.nD Cert.QuantRefIdeal.τ).loc Cert.QuantRefIdeal.main_arg2)
          ∧ r.2.mem ((c.tc : Thread Cert.QuantRefIdeal.nD Cert.QuantRefIdeal.τ).loc Cert.QuantRefIdeal.main_arg3) = m' ((c.tc : Thread Cert.QuantRefIdeal.nD Cert.QuantRefIdeal.τ).loc Cert.QuantRefIdeal.main_arg3))

def Claim : Prop :=
  ∃ (hDgrad : Cert.Dgrad.Facts) (hDgradIdeal : Cert.DgradIdeal.Facts) (hDgradRefIdeal : Cert.DgradRefIdeal.Facts) (hQuant : Cert.Quant.Facts) (hQuantIdeal : Cert.QuantIdeal.Facts) (hQuantRefIdeal : Cert.QuantRefIdeal.Facts) (hPre_finite : Cert.Pre_finite.Facts),
    quiescent_Dgrad (hDgrad := hDgrad)
    ∧ quiescent_DgradIdeal (hDgradIdeal := hDgradIdeal)
    ∧ quiescent_DgradRefIdeal (hDgradRefIdeal := hDgradRefIdeal)
    ∧ quiescent_Quant (hQuant := hQuant)
    ∧ quiescent_QuantIdeal (hQuantIdeal := hQuantIdeal)
    ∧ quiescent_QuantIdeal_pre_finite (hQuantIdeal := hQuantIdeal) (hPre_finite := hPre_finite)
    ∧ quiescent_QuantRefIdeal (hQuantRefIdeal := hQuantRefIdeal)
    ∧ quiescent_QuantRefIdeal_pre_finite (hQuantRefIdeal := hQuantRefIdeal) (hPre_finite := hPre_finite)
    ∧ preserves_Dgrad_DgradIdeal
    ∧ algebraic_DgradIdeal_DgradRefIdeal (hDgradIdeal := hDgradIdeal) (hDgradRefIdeal := hDgradRefIdeal)
    ∧ preserves_Quant_QuantIdeal
    ∧ algebraic_QuantIdeal_QuantRefIdeal_pre_finite (hQuantIdeal := hQuantIdeal) (hQuantRefIdeal := hQuantRefIdeal) (hPre_finite := hPre_finite)
-- ==== Pre_finite.lean ====
abbrev S4x256x32x128 : Shape := ⟨4, ![4, 256, 32, 128]⟩
abbrev S4x256x8x128 : Shape := ⟨4, ![4, 256, 8, 128]⟩
abbrev S4x256 : Shape := ⟨2, ![4, 256]⟩
abbrev S_ : Shape := ⟨0, ![]⟩

class Facts : Prop where
  bitsLt_bf16_f32 : FTy.bits .bf16 < FTy.bits .f32
  bcast_S_S4x256x32x128 : S_.BroadcastsInDim S4x256x32x128 (![] : Fin 0 → Fin S4x256x32x128.rank)
  reducesTo_S4x256x32x128_S_d0_1_2_3 : S4x256x32x128.ReducesTo [0, 1, 2, 3] S_
  h_S_ : 0 < S_.numel
  bcast_S_S4x256x8x128 : S_.BroadcastsInDim S4x256x8x128 (![] : Fin 0 → Fin S4x256x8x128.rank)
  reducesTo_S4x256x8x128_S_d0_1_2_3 : S4x256x8x128.ReducesTo [0, 1, 2, 3] S_

variable [Facts]

def fn {F : FTy → Type} [FloatOps F] (main_arg0 : FVec F S4x256x32x128 .bf16) (main_arg1 : FVec F S4x256x8x128 .bf16) (main_arg2 : FVec F S4x256x8x128 .bf16) (main_arg3 : IVec S4x256 32) : IVec S_ 1 :=
  let main_v0 : FVec F S4x256x32x128 .f32 := (extf .f32 · bitsLt_bf16_f32) main_arg0
  let main_v1 : FVec F S4x256x32x128 .f32 := Host.absf main_v0
  let main_cst : FVec F S_ .f32 := constant S_ .f32 0x7F7F0000#32
  let main_v2 : FVec F S4x256x32x128 .f32 := broadcastInDim S4x256x32x128 ![] bcast_S_S4x256x32x128 main_cst
  let main_v3 : IVec S4x256x32x128 1 := cmpf .ole main_v1 main_v2
  let main_c : IVec S_ 1 := constantI S_ 1 1#1
  let main_v4 : IVec S_ 1 := (fun x v => Host.reduce IntOp.andi x v reducesTo_S4x256x32x128_S_d0_1_2_3 h_S_) main_v3 main_c
  let main_v5 : FVec F S4x256x8x128 .f32 := (extf .f32 · bitsLt_bf16_f32) main_arg1
  let main_v6 : FVec F S4x256x8x128 .f32 := Host.absf main_v5
  let main_cst_0 : FVec F S_ .f32 := constant S_ .f32 0x7F7F0000#32
  let main_v7 : FVec F S4x256x8x128 .f32 := broadcastInDim S4x256x8x128 ![] bcast_S_S4x256x8x128 main_cst_0
  let main_v8 : IVec S4x256x8x128 1 := cmpf .ole main_v6 main_v7
  let main_c_1 : IVec S_ 1 := constantI S_ 1 1#1
  let main_v9 : IVec S_ 1 := (fun x v => Host.reduce IntOp.andi x v reducesTo_S4x256x8x128_S_d0_1_2_3 h_S_) main_v8 main_c_1
  let main_v10 : IVec S_ 1 := andi main_v4 main_v9
  let main_v11 : FVec F S4x256x8x128 .f32 := (extf .f32 · bitsLt_bf16_f32) main_arg2
  let main_v12 : FVec F S4x256x8x128 .f32 := Host.absf main_v11
  let main_cst_2 : FVec F S_ .f32 := constant S_ .f32 0x7F7F0000#32
  let main_v13 : FVec F S4x256x8x128 .f32 := broadcastInDim S4x256x8x128 ![] bcast_S_S4x256x8x128 main_cst_2
  let main_v14 : IVec S4x256x8x128 1 := cmpf .ole main_v12 main_v13
  let main_c_3 : IVec S_ 1 := constantI S_ 1 1#1
  let main_v15 : IVec S_ 1 := (fun x v => Host.reduce IntOp.andi x v reducesTo_S4x256x8x128_S_d0_1_2_3 h_S_) main_v14 main_c_3
  let main_v16 : IVec S_ 1 := andi main_v10 main_v15
  main_v16
-- ==== Dgrad.lean ====
abbrev S1024x6144 : Shape := ⟨2, ![1024, 6144]⟩
abbrev S4096x6144 : Shape := ⟨2, ![4096, 6144]⟩
abbrev S32x48 : Shape := ⟨2, ![32, 48]⟩
abbrev S1024x4096 : Shape := ⟨2, ![1024, 4096]⟩
abbrev S1024x1024 : Shape := ⟨2, ![1024, 1024]⟩
abbrev S512x1024 : Shape := ⟨2, ![512, 1024]⟩
abbrev S1024x512 : Shape := ⟨2, ![1024, 512]⟩
abbrev S1x1 : Shape := ⟨2, ![1, 1]⟩
abbrev S128x128 : Shape := ⟨2, ![128, 128]⟩
abbrev S128x1024 : Shape := ⟨2, ![128, 1024]⟩

abbrev nBuf : Space → Nat
  | .hbm => 4
  | .vmem => 7
  | .smem => 1
  | _ => 0

abbrev bufTy : (tb : Table) → Fin (tcTables nBuf tb) → BufTy
  | .hbm, ⟨0, _⟩ => ⟨S1024x6144, .bf16⟩
  | .hbm, ⟨1, _⟩ => ⟨S4096x6144, .fp8e4m3⟩
  | .hbm, ⟨2, _⟩ => ⟨S32x48, .f32⟩
  | .hbm, ⟨3, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .fp8e4m3⟩
  | .local _ .vmem, ⟨3, _⟩ => ⟨S512x1024, .fp8e4m3⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .smem, ⟨0, _⟩ => ⟨S32x48, .f32⟩
  | _, _ => ⟨S1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 6], ![false, false, false]⟩

def k0_off1 (i : grid0.Coords) (c0_i32 : BitVec 32) (c0_i32_0 : BitVec 32) : Fin 2 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v4 : Index := Scalar.indexCast v1
  let arg2 : BitVec 32 := BitVec.ofNat 32 (i 2).val
  let c8_i32 : BitVec 32 := 8#32
  let v2 : BitVec 32 := Scalar.muli arg2 c8_i32
  let v3 : BitVec 32 := Scalar.addi v2 c0_i32_0
  let v5 : Index := Scalar.indexCast v3
  ![v4.toNat, v5.toNat]
def k0_cond2 (i : grid0.Coords) : BitVec 1 :=
  let arg2 : BitVec 32 := BitVec.ofNat 32 (i 2).val
  let c5_i32_183 : BitVec 32 := 5#32
  let v399 : BitVec 1 := Scalar.cmpi .eq arg2 c5_i32_183
  let v400 : BitVec 32 := Scalar.extui v399
  let c0_i32_184 : BitVec 32 := 0#32
  let v401 : BitVec 1 := Scalar.cmpi .ne v400 c0_i32_184
  v401

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S32x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DgradRefIdeal.lean ====
abbrev S1024x6144 : Shape := ⟨2, ![1024, 6144]⟩
abbrev S4096x6144 : Shape := ⟨2, ![4096, 6144]⟩
abbrev S32x48 : Shape := ⟨2, ![32, 48]⟩
abbrev S32x1x48x1 : Shape := ⟨4, ![32, 1, 48, 1]⟩
abbrev S32x128x48x128 : Shape := ⟨4, ![32, 128, 48, 128]⟩
abbrev S1024x4096 : Shape := ⟨2, ![1024, 4096]⟩

abbrev nBuf : Space → Nat
  | .hbm => 8
  | .vmem => 4
  | .smem => 0
  | _ => 0

abbrev bufTy : (tb : Table) → Fin (tcTables nBuf tb) → BufTy
  | .hbm, ⟨0, _⟩ => ⟨S1024x6144, .bf16⟩
  | .hbm, ⟨1, _⟩ => ⟨S4096x6144, .fp8e4m3⟩
  | .hbm, ⟨2, _⟩ => ⟨S32x48, .f32⟩
  | .hbm, ⟨3, _⟩ => ⟨S32x48, .bf16⟩
  | .hbm, ⟨4, _⟩ => ⟨S32x1x48x1, .bf16⟩
  | .hbm, ⟨5, _⟩ => ⟨S32x128x48x128, .bf16⟩
  | .hbm, ⟨6, _⟩ => ⟨S4096x6144, .bf16⟩
  | .hbm, ⟨7, _⟩ => ⟨S1024x4096, .bf16⟩
  | .local _ .vmem, ⟨0, _⟩ => ⟨S1024x6144, .bf16⟩
  | .local _ .vmem, ⟨1, _⟩ => ⟨S4096x6144, .fp8e4m3⟩
  | .local _ .vmem, ⟨2, _⟩ => ⟨S4096x6144, .bf16⟩
  | .local _ .vmem, ⟨3, _⟩ => ⟨S1024x4096, .bf16⟩
  | _, _ => ⟨S1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quant.lean ====
abbrev S4x256x32x128 : Shape := ⟨4, ![4, 256, 32, 128]⟩
abbrev S4x256x8x128 : Shape := ⟨4, ![4, 256, 8, 128]⟩
abbrev S4x256 : Shape := ⟨2, ![4, 256]⟩
abbrev S1024x32x128 : Shape := ⟨3, ![1024, 32, 128]⟩
abbrev S1024x8x128 : Shape := ⟨3, ![1024, 8, 128]⟩
abbrev S8x1x128 : Shape := ⟨3, ![8, 1, 128]⟩
abbrev S1024x6144 : Shape := ⟨2, ![1024, 6144]⟩
abbrev S1024x48 : Shape := ⟨2, ![1024, 48]⟩
abbrev S128x32x128 : Shape := ⟨3, ![128, 32, 128]⟩
abbrev S128x8x128 : Shape := ⟨3, ![128, 8, 128]⟩
abbrev S1x1x128 : Shape := ⟨3, ![1, 1, 128]⟩
abbrev S128x6144 : Shape := ⟨2, ![128, 6144]⟩
abbrev S128x48 : Shape := ⟨2, ![128, 48]⟩
abbrev S1x128 : Shape := ⟨2, ![1, 128]⟩
abbrev S32x128 : Shape := ⟨2, ![32, 128]⟩
abbrev S64x128 : Shape := ⟨2, ![64, 128]⟩
abbrev S128x128 : Shape := ⟨2, ![128, 128]⟩
abbrev S128x16x128 : Shape := ⟨3, ![128, 16, 128]⟩
abbrev S2048x128 : Shape := ⟨2, ![2048, 128]⟩
abbrev S128x2x128 : Shape := ⟨3, ![128, 2, 128]⟩
abbrev S128x1x128 : Shape := ⟨3, ![128, 1, 128]⟩
abbrev S128 : Shape := ⟨1, ![128]⟩
abbrev S128x1 : Shape := ⟨2, ![128, 1]⟩
abbrev S128x256 : Shape := ⟨2, ![128, 256]⟩
abbrev S128x4x128 : Shape := ⟨3, ![128, 4, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x256x32x128, .bf16⟩
  | .hbm, ⟨1, _⟩ => ⟨S4x256x8x128, .bf16⟩
  | .hbm, ⟨2, _⟩ => ⟨S4x256x8x128, .bf16⟩
  | .hbm, ⟨3, _⟩ => ⟨S4x256, .i32⟩
  | .hbm, ⟨4, _⟩ => ⟨S1024x32x128, .bf16⟩
  | .hbm, ⟨5, _⟩ => ⟨S1024x8x128, .bf16⟩
  | .hbm, ⟨6, _⟩ => ⟨S1024x8x128, .bf16⟩
  | .hbm, ⟨7, _⟩ => ⟨S8x1x128, .i32⟩
  | .hbm, ⟨8, _⟩ => ⟨S1024x6144, .fp8e5m2⟩
  | .hbm, ⟨9, _⟩ => ⟨S1024x48, .f32⟩
  | .hbm, ⟨10, _⟩ => ⟨S1024x6144, .bf16⟩
  | .local _ .vmem, ⟨0, _⟩ => ⟨S128x32x128, .bf16⟩
  | .local _ .vmem, ⟨1, _⟩ => ⟨S128x32x128, .bf16⟩
  | .local _ .vmem, ⟨2, _⟩ => ⟨S128x8x128, .bf16⟩
  | .local _ .vmem, ⟨3, _⟩ => ⟨S128x8x128, .bf16⟩
  | .local _ .vmem, ⟨4, _⟩ => ⟨S128x8x128, .bf16⟩
  | .local _ .vmem, ⟨5, _⟩ => ⟨S128x8x128, .bf16⟩
  | .local _ .vmem, ⟨6, _⟩ => ⟨S1x1x128, .i32⟩
  | .local _ .vmem, ⟨7, _⟩ => ⟨S1x1x128, .i32⟩
  | .local _ .vmem, ⟨8, _⟩ => ⟨S128x6144, .fp8e5m2⟩
  | .local _ .vmem, ⟨9, _⟩ => ⟨S128x6144, .fp8e5m2⟩
  | .local _ .vmem, ⟨10, _⟩ => ⟨S128x48, .f32⟩
  | .local _ .vmem, ⟨11, _⟩ => ⟨S128x48, .f32⟩
  | .local _ .vmem, ⟨12, _⟩ => ⟨S128x6144, .bf16⟩
  | .local _ .vmem, ⟨13, _⟩ => ⟨S128x6144, .bf16⟩
  | _, _ => ⟨S4x256x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x6144 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantIdeal.lean ====
abbrev S256x128 : Shape := ⟨2, ![256, 128]⟩
variable {F : FTy → Type} [FloatOps F] [Named F]
def κ : String → Option EReal := fun
  | "log2_theta" => some (((Real.log 10000) * (Real.log 2)⁻¹ : ℝ) : EReal)
  | _ => none
-- ==== QuantRefIdeal.lean ====
abbrev S4x256x32x128 : Shape := ⟨4, ![4, 256, 32, 128]⟩
abbrev S4x256x8x128 : Shape := ⟨4, ![4, 256, 8, 128]⟩
abbrev S4x256 : Shape := ⟨2, ![4, 256]⟩
abbrev S32 : Shape := ⟨1, ![32]⟩
abbrev S_ : Shape := ⟨0, ![]⟩
abbrev S4x256x1 : Shape := ⟨3, ![4, 256, 1]⟩
abbrev S1x1x32 : Shape := ⟨3, ![1, 1, 32]⟩
abbrev S4x256x32 : Shape := ⟨3, ![4, 256, 32]⟩
abbrev S4x256x1x32 : Shape := ⟨4, ![4, 256, 1, 32]⟩
abbrev S4x256x32x32 : Shape := ⟨4, ![4, 256, 32, 32]⟩
abbrev S4x256x32x64 : Shape := ⟨4, ![4, 256, 32, 64]⟩
abbrev S4x256x8x32 : Shape := ⟨4, ![4, 256, 8, 32]⟩
abbrev S4x256x8x64 : Shape := ⟨4, ![4, 256, 8, 64]⟩
abbrev S4x256x48x128 : Shape := ⟨4, ![4, 256, 48, 128]⟩
abbrev S4x256x48 : Shape := ⟨3, ![4, 256, 48]⟩
abbrev S4x256x48x1 : Shape := ⟨4, ![4, 256, 48, 1]⟩
abbrev S1024x6144 : Shape := ⟨2, ![1024, 6144]⟩
abbrev S1024x48 : Shape := ⟨2, ![1024, 48]⟩

abbrev nBuf : Space → Nat
  | .hbm => 103
  | .vmem => 4
  | .smem => 0
  | _ => 0

abbrev bufTy : (tb : Table) → Fin (tcTables nBuf tb) → BufTy
  | .hbm, ⟨0, _⟩ => ⟨S4x256x32x128, .bf16⟩
  | .hbm, ⟨1, _⟩ => ⟨S4x256x8x128, .bf16⟩
  | .hbm, ⟨2, _⟩ => ⟨S4x256x8x128, .bf16⟩
  | .hbm, ⟨3, _⟩ => ⟨S4x256, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4x256, .f32⟩
  | .hbm, ⟨21, _⟩ => ⟨S4x256x1, .f32⟩
  | .hbm, ⟨22, _⟩ => ⟨S1x1x32, .f32⟩
  | .hbm, ⟨23, _⟩ => ⟨S4x256x32, .f32⟩
  | .hbm, ⟨24, _⟩ => ⟨S4x256x32, .f32⟩
  | .hbm, ⟨25, _⟩ => ⟨S4x256x32, .f32⟩
  | .hbm, ⟨26, _⟩ => ⟨S4x256x32, .f32⟩
  | .hbm, ⟨27, _⟩ => ⟨S4x256x1x32, .f32⟩
  | .hbm, ⟨28, _⟩ => ⟨S4x256x32, .f32⟩
  | .hbm, ⟨29, _⟩ => ⟨S4x256x1x32, .f32⟩
  | .hbm, ⟨30, _⟩ => ⟨S4x256x32x128, .f32⟩
  | .hbm, ⟨31, _⟩ => ⟨S4x256x32x32, .f32⟩
  | .hbm, ⟨32, _⟩ => ⟨S4x256x32x32, .f32⟩
  | .hbm, ⟨33, _⟩ => ⟨S4x256x32x32, .f32⟩
  | .hbm, ⟨34, _⟩ => ⟨S4x256x32x32, .f32⟩
  | .hbm, ⟨35, _⟩ => ⟨S4x256x32x32, .f32⟩
  | .hbm, ⟨36, _⟩ => ⟨S4x256x32x32, .f32⟩
  | .hbm, ⟨37, _⟩ => ⟨S4x256x32x32, .f32⟩
  | .hbm, ⟨38, _⟩ => ⟨S4x256x32x32, .f32⟩
  | .hbm, ⟨39, _⟩ => ⟨S4x256x32x32, .f32⟩
  | .hbm, ⟨40, _⟩ => ⟨S4x256x32x32, .f32⟩
  | .hbm, ⟨41, _⟩ => ⟨S4x256x32x32, .f32⟩
  | .hbm, ⟨42, _⟩ => ⟨S4x256x32x32, .f32⟩
  | .hbm, ⟨43, _⟩ => ⟨S4x256x32x64, .f32⟩
  | .hbm, ⟨44, _⟩ => ⟨S4x256x32x128, .f32⟩
  | .hbm, ⟨45, _⟩ => ⟨S4x256x8x128, .f32⟩
  | .hbm, ⟨46, _⟩ => ⟨S4x256x8x32, .f32⟩
  | .hbm, ⟨47, _⟩ => ⟨S4x256x8x32, .f32⟩
  | .hbm, ⟨48, _⟩ => ⟨S4x256x8x32, .f32⟩
  | .hbm, ⟨49, _⟩ => ⟨S4x256x8x32, .f32⟩
  | .hbm, ⟨50, _⟩ => ⟨S4x256x8x32, .f32⟩
  | .hbm, ⟨51, _⟩ => ⟨S4x256x8x32, .f32⟩
  | .hbm, ⟨52, _⟩ => ⟨S4x256x8x32, .f32⟩
  | .hbm, ⟨53, _⟩ => ⟨S4x256x8x32, .f32⟩
  | .hbm, ⟨54, _⟩ => ⟨S4x256x8x32, .f32⟩
  | .hbm, ⟨55, _⟩ => ⟨S4x256x8x32, .f32⟩
  | .hbm, ⟨56, _⟩ => ⟨S4x256x8x32, .f32⟩
  | .hbm, ⟨57, _⟩ => ⟨S4x256x8x32, .f32⟩
  | .hbm, ⟨58, _⟩ => ⟨S4x256x8x64, .f32⟩
  | .hbm, ⟨59, _⟩ => ⟨S4x256x8x128, .f32⟩
  | .hbm, ⟨60, _⟩ => ⟨S4x256x8x128, .f32⟩
  | .hbm, ⟨61, _⟩ => ⟨S4x256x48x128, .f32⟩
  | .hbm, ⟨62, _⟩ => ⟨S4x256x48x128, .f32⟩
  | .hbm, ⟨63, _⟩ => ⟨S_, .f32⟩
  | .hbm, ⟨64, _⟩ => ⟨S4x256x48, .f32⟩
  | .hbm, ⟨65, _⟩ => ⟨S_, .f32⟩
  | .hbm, ⟨66, _⟩ => ⟨S4x256x48, .f32⟩
  | .hbm, ⟨67, _⟩ => ⟨S4x256x48, .f32⟩
  | .hbm, ⟨68, _⟩ => ⟨S_, .f32⟩
  | .hbm, ⟨69, _⟩ => ⟨S4x256x48, .f32⟩
  | .hbm, ⟨70, _⟩ => ⟨S4x256x48, .i1⟩
  | .hbm, ⟨71, _⟩ => ⟨S4x256x48, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4x256x48, .f32⟩
  | .hbm, ⟨76, _⟩ => ⟨S4x256x48, .f32⟩
  | .hbm, ⟨77, _⟩ => ⟨S4x256x48, .f32⟩
  | .hbm, ⟨78, _⟩ => ⟨S_, .f32⟩
  | .hbm, ⟨79, _⟩ => ⟨S4x256x48, .f32⟩
  | .hbm, ⟨80, _⟩ => ⟨S4x256x48, .f32⟩
  | .hbm, ⟨81, _⟩ => ⟨S_, .f32⟩
  | .hbm, ⟨82, _⟩ => ⟨S_, .f32⟩
  | .hbm, ⟨83, _⟩ => ⟨S4x256x48, .f32⟩
  | .hbm, ⟨84, _⟩ => ⟨S4x256x48, .f32⟩
  | .hbm, ⟨85, _⟩ => ⟨S_, .f32⟩
  | .hbm, ⟨86, _⟩ => ⟨S4x256x48, .f32⟩
  | .hbm, ⟨87, _⟩ => ⟨S4x256x48, .f32⟩
  | .hbm, ⟨88, _⟩ => ⟨S4x256x48, .f32⟩
  | .hbm, ⟨89, _⟩ => ⟨S_, .f32⟩
  | .hbm, ⟨90, _⟩ => ⟨S4x256x48, .f32⟩
  | .hbm, ⟨91, _⟩ => ⟨S4x256x48, .f32⟩
  | .hbm, ⟨92, _⟩ => ⟨S4x256x48x1, .f32⟩
  | .hbm, ⟨93, _⟩ => ⟨S4x256x48x128, .f32⟩
  | .hbm, ⟨94, _⟩ => ⟨S4x256x48x128, .f32⟩
  | .hbm, ⟨95, _⟩ => ⟨S1024x6144, .f32⟩
  | .hbm, ⟨96, _⟩ => ⟨S4x256x48, .bf16⟩
  | .hbm, ⟨97, _⟩ => ⟨S4x256x48x1, .bf16⟩
  | .hbm, ⟨98, _⟩ => ⟨S4x256x48x128, .bf16⟩
  | .hbm, ⟨99, _⟩ => ⟨S1024x6144, .bf16⟩
  | .hbm, ⟨100, _⟩ => ⟨S1024x48, .f32⟩
  | .hbm, ⟨101, _⟩ => ⟨S1024x6144, .fp8e5m2⟩
  | .hbm, ⟨102, _⟩ => ⟨S1024x6144, .bf16⟩
  | .local _ .vmem, ⟨0, _⟩ => ⟨S1024x6144, .f32⟩
  | .local _ .vmem, ⟨1, _⟩ => ⟨S1024x6144, .bf16⟩
  | .local _ .vmem, ⟨2, _⟩ => ⟨S1024x6144, .fp8e5m2⟩
  | .local _ .vmem, ⟨3, _⟩ => ⟨S1024x6144, .bf16⟩
  | _, _ => ⟨S4x256x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_call0_v0 : Ref sig .tc := ⟨.hbm, 82, rfl⟩
abbrev main_call0_v1 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82_0 : Ref sig .tc := ⟨.hbm, 101, rfl⟩
abbrev main_v82_1 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x6144 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.DgradBlock.lean ====
module

public import proofs.«01_k».proof.Proof.Gen.DgradIdeal.Frame
public import Idealize.ShloMosaic.Lib.Pipeline.Value
public import Idealize.ShloMosaic.Lib.Tactic
public import Idealize.ShloMosaic.Lib.Pipeline.ValueKit.Tiles
public import Idealize.ShloMosaic.Lib.ValueIdxCore
public import Idealize.ShloMosaic.Lib.MatmulPlain

@[expose] public section

set_option maxRecDepth 16384

noncomputable section

open Idealize.ShloMosaic Idealize.ShloMosaic.TcCoe Idealize.SL.Sem
open Idealize.ShloMosaic.ValueIdx (ix2)

namespace Cert.DgradIdeal.Block

open Cert.DgradIdeal Cert.DgradIdeal.Gen

variable {F : FTy → Type} [FloatOps F]

theorem hz : (![0, 0] : Fin 2 → Nat) = fun _ => 0 := funext fun a => by fin_cases a <;> rfl

/-- Eight equal column blocks side by side, read at an index. -/
theorem cat8 {α : Type} (f : Fin 8 → S128x128.Idx → α) (h) :
    concatenate S128x1024 1 [⟨S128x128, f 0⟩, ⟨S128x128, f 1⟩, ⟨S128x128, f 2⟩, ⟨S128x128, f 3⟩,
      ⟨S128x128, f 4⟩, ⟨S128x128, f 5⟩, ⟨S128x128, f 6⟩, ⟨S128x128, f 7⟩] h
      = fun j => f ⟨(j 1).val / 128, by have : (j 1).val < 1024 := (j 1).isLt; omega⟩ (ix2 (j 0) ⟨(j 1).val % 128, Nat.mod_lt _ (by norm_num)⟩) := by
  funext j
  refine concatenate_ofFn_apply (t := S128x1024) (s₁ := S128x128) 1 f h rfl 128 rfl j ⟨(j 1).val / 128, by have : (j 1).val < 1024 := (j 1).isLt; omega⟩ rfl
    (ix2 (j 0) ⟨(j 1).val % 128, Nat.mod_lt _ (by norm_num)⟩) rfl fun b hb => ?_
  match b with
  | ⟨0, _⟩ => rfl
  | ⟨1, _⟩ => exact absurd rfl hb

/-- Four equal row blocks one above another, read at an index. -/
theorem cat4 {α : Type} (f : Fin 4 → S128x1024.Idx → α) (h) :
    concatenate S512x1024 0 [⟨S128x1024, f 0⟩, ⟨S128x1024, f 1⟩, ⟨S128x1024, f 2⟩, ⟨S128x1024, f 3⟩] h
      = fun j => f ⟨(j 0).val / 128, by have : (j 0).val < 512 := (j 0).isLt; omega⟩ (ix2 ⟨(j 0).val % 128, Nat.mod_lt _ (by norm_num)⟩ (j 1)) := by
  funext j
  refine concatenate_ofFn_apply (t := S512x1024) (s₁ := S128x1024) 0 f h rfl 128 rfl j ⟨(j 0).val / 128, by have : (j 0).val < 512 := (j 0).isLt; omega⟩ rfl
    (ix2 ⟨(j 0).val % 128, Nat.mod_lt _ (by norm_num)⟩ (j 1)) rfl fun b hb => ?_
  match b with
  | ⟨0, _⟩ => exact absurd rfl hb
  | ⟨1, _⟩ => rfl

/-- The dequantised weight tile of grid point `i`: every code times its 128-block's scale. -/
def deq (i : grid0.Coords) (x0 : Vec F S32x48 .f32) (x2 : Vec F S512x1024 .fp8e4m3) : FVec F S512x1024 .bf16 := fun j =>
  FloatOps.mulf (FloatOps.extf .bf16 (by decide) (x2 j)) (Scalar.truncf .bf16 bitsLt_bf16_f32 (x0 (ix2
    ⟨4 * (i 1).val + (j 0).val / 128, by have : (j 0).val < 512 := (j 0).isLt; have : (i 1).val < 8 := (i 1).isLt; omega⟩
    ⟨8 * (i 2).val + (j 1).val / 128, by have : (j 1).val < 1024 := (j 1).isLt; have : (i 2).val < 6 := (i 2).isLt; omega⟩)))

theorem inb_tile (a : Fin 4) (b : Fin 8) : ∀ k : Fin 2, (![128 * a.val, 128 * b.val] : Fin 2 → ℕ) k + (![128, 128] : Fin 2 → ℕ) k ≤ S512x1024.size k := by
  intro k
  match k with
  | ⟨0, _⟩ => show 128 * a.val + 128 ≤ 512; omega
  | ⟨1, _⟩ => show 128 * b.val + 128 ≤ 1024; omega

/-- One 128-by-128 block of the tile, as the kernel spells it. -/
def tile (i : grid0.Coords) (x0 : Vec F S32x48 .f32) (x2 : Vec F S512x1024 .fp8e4m3) (a : Fin 4) (b : Fin 8) : FVec F S128x128 .bf16 :=
  mulf (extf .bf16 (View.ld x2 (Rect.unit (s := S512x1024) ![128 * a.val, 128 * b.val] ![128, 128] (inb_tile a b))) bitsLt_fp8e4m3_bf16)
    (broadcast S128x128 (Scalar.truncf .bf16 bitsLt_bf16_f32 (View.ld x0 (Rect.unit (s := S32x48) (k0_off1 i (BitVec.ofNat 32 a.val) (BitVec.ofNat 32 b.val)) ![1, 1] (k0_off1_inb i a b))
      (Shape.Idx.first (numel1_S1x1.symm ▸ Nat.one_pos)))))

theorem tile_apply (i : grid0.Coords) (x0 : Vec F S32x48 .f32) (x2 : Vec F S512x1024 .fp8e4m3) (j : S512x1024.Idx) :
    tile i x0 x2 ⟨(j 0).val / 128, by have : (j 0).val < 512 := (j 0).isLt; omega⟩ ⟨(j 1).val / 128, by have : (j 1).val < 1024 := (j 1).isLt; omega⟩
      (ix2 ⟨(j 0).val % 128, Nat.mod_lt _ (by norm_num)⟩ ⟨(j 1).val % 128, Nat.mod_lt _ (by norm_num)⟩) = deq i x0 x2 j := by
  unfold tile deq
  unfold mulf extf broadcast
  congr 2
  · refine View.ld_unit_apply_of x2 _ _ _ _ _ fun a => ?_
    match a with
    | ⟨0, _⟩ => exact (Nat.div_add_mod _ 128).symm
    | ⟨1, _⟩ => exact (Nat.div_add_mod _ 128).symm
  · refine View.ld_unit_apply_of x0 _ _ _ _ _ fun a => ?_
    refine Eq.trans ?_ (congrArg (· + _) (congrFun (k0_off1_eq i _ _) a).symm)
    match a with
    | ⟨0, _⟩ => rfl
    | ⟨1, _⟩ => rfl

/-- One row of eight blocks. -/
def wrow (i : grid0.Coords) (x0 : Vec F S32x48 .f32) (x2 : Vec F S512x1024 .fp8e4m3) (a : Fin 4) : FVec F S128x1024 .bf16 :=
  concatenate S128x1024 1 [⟨S128x128, tile i x0 x2 a 0⟩, ⟨S128x128, tile i x0 x2 a 1⟩, ⟨S128x128, tile i x0 x2 a 2⟩, ⟨S128x128, tile i x0 x2 a 3⟩,
      ⟨S128x128, tile i x0 x2 a 4⟩, ⟨S128x128, tile i x0 x2 a 5⟩, ⟨S128x128, tile i x0 x2 a 6⟩, ⟨S128x128, tile i x0 x2 a 7⟩]
    concatenates_S128x128_S128x128_S128x128_S128x128_S128x128_S128x128_S128x128_S128x128_S128x1024_d1

/-- The weight tile the kernel assembles. -/
def wtile (i : grid0.Coords) (x0 : Vec F S32x48 .f32) (x2 : Vec F S512x1024 .fp8e4m3) : FVec F S512x1024 .bf16 :=
  concatenate S512x1024 0 [⟨S128x1024, wrow i x0 x2 0⟩, ⟨S128x1024, wrow i x0 x2 1⟩, ⟨S128x1024, wrow i x0 x2 2⟩, ⟨S128x1024, wrow i x0 x2 3⟩]
    concatenates_S128x1024_S128x1024_S128x1024_S128x1024_S512x1024_d0

theorem wtile_eq (i : grid0.Coords) (x0 : Vec F S32x48 .f32) (x2 : Vec F S512x1024 .fp8e4m3) : wtile i x0 x2 = deq i x0 x2 := by
  unfold wtile
  rw [cat4 (wrow i x0 x2)]
  funext j
  unfold wrow
  rw [cat8 (tile i x0 x2 _)]
  exact tile_apply i x0 x2 j

/-- The step of the running sum: the product of the gradient block with the dequantised tile, added. -/
def step (i : grid0.Coords) (x0 : Vec F S32x48 .f32) (x1 : Vec F S1024x1024 .bf16) (x2 : Vec F S512x1024 .fp8e4m3) (xs : Vec F S1024x512 .f32) : Vec F S1024x512 .f32 :=
  addf xs (matmul dot_S1024x1024_S512x1024_S1024x512_1_1_0_0_n_n none x1 (deq i x0 x2) (constant S1024x512 .f32 0x00000000#32))

abbrev zero : Vec F S1024x512 .f32 := broadcast S1024x512 (Scalar.ofBits .f32 0x00000000#32)

theorem sout_B (c : Dev nD) (i : grid0.Coords) (a3 : Memref sig .tc .smem S32x48 .f32) (h3 : a3.IsWhole)
    (a4 : Memref sig .tc .vmem S1024x1024 .bf16) (h4 : a4.IsWhole) (a5 : Memref sig .tc .vmem S512x1024 .fp8e4m3) (h5 : a5.IsWhole)
    (a6 : Memref sig .tc .vmem S1024x512 .bf16) (h6 : a6.IsWhole) (a7 : Memref sig .tc .vmem S1024x512 .f32) (h7 : a7.IsWhole)
    (hc0 : ¬cond0_0 i) (hc1 : ¬cond0_1 i)
    (x0 : Vec F S32x48 .f32) (x1 : Vec F S1024x1024 .bf16) (x2 : Vec F S512x1024 .fp8e4m3) (xs : Vec F S1024x512 .f32) :
    sout0_B_0 c i a3 h3 a4 h4 a5 h5 a6 h6 a7 h7 hc0 hc1 x0 x1 x2 xs = step i x0 x1 x2 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz]
  unfold k0_pay1
  simp only [View.readAt_eq_ld, h3.read_unread, h4.read_unread, h5.read_unread, h7.read_unread, View.ld_unit_zero (S := S1024x512) hz, View.ld_unit_zero (S := S1024x1024) hz, shapeCast_self]
  unfold step
  rw [← wtile_eq]
  unfold k0_pay33
  rfl

theorem sout_A (c : Dev nD) (i : grid0.Coords) (a3 : Memref sig .tc .smem S32x48 .f32) (h3 : a3.IsWhole)
    (a4 : Memref sig .tc .vmem S1024x1024 .bf16) (h4 : a4.IsWhole) (a5 : Memref sig .tc .vmem S512x1024 .fp8e4m3) (h5 : a5.IsWhole)
    (a6 : Memref sig .tc .vmem S1024x512 .bf16) (h6 : a6.IsWhole) (a7 : Memref sig .tc .vmem S1024x512 .f32) (h7 : a7.IsWhole)
    (hc0 : cond0_0 i) (hc1 : ¬cond0_1 i)
    (x0 : Vec F S32x48 .f32) (x1 : Vec F S1024x1024 .bf16) (x2 : Vec F S512x1024 .fp8e4m3) :
    sout0_A_0 c i a3 h3 a4 h4 a5 h5 a6 h6 a7 h7 hc0 hc1 x0 x1 x2 = step i x0 x1 x2 zero := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x512) hz, View.readCov_unit_zero (S := S1024x512) _ hz]
  unfold k0_pay1
  simp only [View.readAt_eq_ld, h3.read_unread, h4.read_unread, h5.read_unread, h7.read_unread, View.ld_unit_zero (S := S1024x512) hz, View.ld_unit_zero (S := S1024x1024) hz, shapeCast_self]
  unfold step
  rw [← wtile_eq]
  unfold k0_pay33 k0_pay32
  simp only [shapeCast_self]
  rfl

theorem out_C (c : Dev nD) (i : grid0.Coords) (a3 : Memref sig .tc .smem S32x48 .f32) (h3 : a3.IsWhole)
    (a4 : Memref sig .tc .vmem S1024x1024 .bf16) (h4 : a4.IsWhole) (a5 : Memref sig .tc .vmem S512x1024 .fp8e4m3) (h5 : a5.IsWhole)
    (a6 : Memref sig .tc .vmem S1024x512 .bf16) (h6 : a6.IsWhole) (a7 : Memref sig .tc .vmem S1024x512 .f32) (h7 : a7.IsWhole)
    (hc0 : ¬cond0_0 i) (hc1 : cond0_1 i)
    (x0 : Vec F S32x48 .f32) (x1 : Vec F S1024x1024 .bf16) (x2 : Vec F S512x1024 .fp8e4m3) (xs : Vec F S1024x512 .f32) :
    out0_C_3 c i a3 h3 a4 h4 a5 h5 a6 h6 a7 h7 hc0 hc1 x0 x1 x2 xs = truncf .bf16 (step i x0 x1 x2 xs) bitsLt_bf16_f32 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x512) _ hz]
  unfold k0_pay1 k0_pay2
  simp only [View.readAt_eq_ld, h3.read_unread, h4.read_unread, h5.read_unread, h7.read_unread, View.ld_unit_zero (S := S1024x512) hz, View.ld_unit_zero (S := S1024x1024) hz, shapeCast_self]
  unfold step
  rw [← wtile_eq]
  unfold k0_pay33
  rfl

end Cert.DgradIdeal.Block
-- ==== Proof.DgradValue.lean ====
module

public import proofs.«01_k».proof.Proof.DgradBlock
public import proofs.«01_k».proof.Proof.Gen.DgradIdeal.Value

@[expose] public section

set_option maxRecDepth 16384

noncomputable section

open Idealize.ShloMosaic Idealize.ShloMosaic.TcCoe Idealize.SL.Sem
open Idealize.ShloMosaic.ValueIdx (ix2 eq_ix2)

namespace Cert.DgradIdeal.Whole

open Cert.DgradIdeal Cert.DgradIdeal.Gen Cert.DgradIdeal.Block Cert.DgradIdeal.Value

variable (m : (ℓ : Loc nD τ sig) → Buf (Elt Ideal) ℓ)

/-- The three arguments as launched: the weight scales, the gradient codes times their scales, the weight codes. -/
abbrev gA (c : Dev nD) : S1024x6144.Idx → EReal := m ((c : Thread nD τ).loc main_arg0)
abbrev wcA (c : Dev nD) : S4096x6144.Idx → EReal := m ((c : Thread nD τ).loc main_arg1)
abbrev wsA (c : Dev nD) : S32x48.Idx → EReal := m ((c : Thread nD τ).loc main_arg2)

theorem coords_eq : ∀ t : Fin cfg0.N, (grid0.coords t 1).val = t.val / 6 ∧ (grid0.coords t 2).val = t.val % 6 :=
  (by decide +kernel : ∀ t : Fin grid0.N, _)

theorem index_eq : ∀ t : Fin cfg0.N, win0_0.index t 0 = 0 ∧ win0_0.index t 1 = 0
    ∧ win0_1.index t 0 = 0 ∧ win0_1.index t 1 = t.val % 6 ∧ win0_2.index t 0 = t.val / 6 ∧ win0_2.index t 1 = t.val % 6 :=
  (by decide +kernel : ∀ t : Fin grid0.N, _)

theorem blk_ws (c : Dev nD) (t : Fin cfg0.N) (j : S32x48.Idx) : (iblk m c 0 t : S32x48.Idx → EReal) j = wsA m c j := by
  obtain ⟨e0, e1, -⟩ := index_eq t
  unfold iblk
  rw [View.read_apply]
  show V m c main_arg2 _ = m (c.tc.loc main_arg2) _
  rw [V_main_arg2]
  congr 1
  funext a
  apply Fin.ext
  match a with
  | ⟨0, _⟩ => show win0_0.index t 0 * 32 + 1 * (j 0).val = (j 0).val; omega
  | ⟨1, _⟩ => show win0_0.index t 1 * 48 + 1 * (j 1).val = (j 1).val; omega

theorem blk_g (c : Dev nD) (t : Fin cfg0.N) (r : Fin 1024) (x : Fin 1024) :
    (iblk m c 1 t : S1024x1024.Idx → EReal) (ix2 r x) = gA m c (ix2 r ⟨1024 * (t.val % 6) + x.val, by omega⟩) := by
  obtain ⟨-, -, e0, e1, -⟩ := index_eq t
  unfold iblk
  rw [View.read_apply]
  show V m c main_arg0 _ = m (c.tc.loc main_arg0) _
  rw [V_main_arg0]
  congr 1
  funext a
  apply Fin.ext
  match a with
  | ⟨0, _⟩ => show win0_1.index t 0 * 1024 + 1 * r.val = r.val; omega
  | ⟨1, _⟩ => show win0_1.index t 1 * 1024 + 1 * x.val = 1024 * (t.val % 6) + x.val; omega

theorem blk_wc (c : Dev nD) (t : Fin cfg0.N) (l : Fin 512) (x : Fin 1024) :
    (iblk m c 2 t : S512x1024.Idx → EReal) (ix2 l x) = wcA m c (ix2 ⟨512 * (t.val / 6) + l.val, by have := lt_of_lt_of_eq t.isLt N_0; omega⟩ ⟨1024 * (t.val % 6) + x.val, by omega⟩) := by
  obtain ⟨-, -, -, -, e0, e1⟩ := index_eq t
  unfold iblk
  rw [View.read_apply]
  show V m c main_arg1 _ = m (c.tc.loc main_arg1) _
  rw [V_main_arg1]
  congr 1
  funext a
  apply Fin.ext
  match a with
  | ⟨0, _⟩ => show win0_2.index t 0 * 512 + 1 * l.val = 512 * (t.val / 6) + l.val; omega
  | ⟨1, _⟩ => show win0_2.index t 1 * 1024 + 1 * x.val = 1024 * (t.val % 6) + x.val; omega

/-- The dequantised weight: every code times the scale of its 128-by-128 block. -/
def deqW (wc : S4096x6144.Idx → EReal) (ws : S32x48.Idx → EReal) (o : Fin 4096) (x : Fin 6144) : EReal :=
  wc (ix2 o x) * ws (ix2 ⟨o.val / 128, by omega⟩ ⟨x.val / 128, by omega⟩)

/-- Term `n` of the contraction at row `r`, output column `o`. -/
def term (c : Dev nD) (r : Fin 1024) (o : Fin 4096) (n : ℕ) : EReal :=
  if h : n < 6144 then gA m c (ix2 r ⟨n, h⟩) * deqW (wcA m c) (wsA m c) o ⟨n, h⟩ else 0

/-- The step at point `t` adds the point's 1024 terms. -/
theorem step_apply (c : Dev nD) (t : Fin cfg0.N) (xs : S1024x512.Idx → EReal) (r : Fin 1024) (l : Fin 512) (o : Fin 4096) (ho : o.val = 512 * (t.val / 6) + l.val) :
    (step (F := Ideal) (grid0.coords t) (iblk m c 0 t) (iblk m c 1 t) (iblk m c 2 t) xs : S1024x512.Idx → EReal) (ix2 r l)
      = xs (ix2 r l) + ∑ x ∈ Finset.range 1024, term m c r o (1024 * (t.val % 6) + x) := by
  have hN := lt_of_lt_of_eq t.isLt N_0
  obtain ⟨c1, c2⟩ := coords_eq t
  unfold step
  show xs (ix2 r l) + FloatOps.matmul (F := Ideal) (DotDims.transposedRhs 1024 1024 512) none _ _ _ (ix2 r l) = _
  rw [Ideal.matmul_transposedRhs_apply]
  congr 1
  rw [show (constant (F := Ideal) S1024x512 .f32 0x00000000#32 : S1024x512.Idx → EReal) (ix2 r l) = 0 from Ideal.ofBits_zero_f32, zero_add, Finset.sum_range]
  refine Finset.sum_congr rfl fun x _ => ?_
  rw [blk_g]
  unfold term
  rw [dif_pos (by omega)]
  congr 1
  unfold deq deqW
  show @HMul.hMul EReal EReal EReal _ ((iblk m c 2 t : S512x1024.Idx → EReal) (ix2 l x)) ((iblk m c 0 t : S32x48.Idx → EReal) _) = _
  rw [blk_wc, blk_ws]
  congr 2
  · congr 1
    exact Fin.ext ho.symm
  · congr 1 <;> apply Fin.ext
    · show 4 * (grid0.coords t 1).val + l.val / 128 = o.val / 128
      omega
    · show 8 * (grid0.coords t 2).val + x.val / 128 = (1024 * (t.val % 6) + x.val) / 128
      omega

/-- What the running sum holds after point `n`, short of a column block's last point: the terms so far. -/
theorem acc_apply (c : Dev nD) (r : Fin 1024) (l : Fin 512) : ∀ (n : ℕ) (h : n < cfg0.N) (o : Fin 4096), o.val = 512 * (n / 6) + l.val → ¬ n % 6 = 5 →
    ((outsAt0 m c n h).2 : S1024x512.Idx → EReal) (ix2 r l) = ∑ x ∈ Finset.range (1024 * (n % 6 + 1)), term m c r o x := by
  intro n
  induction n with
  | zero =>
    intro h o ho h5
    rw [outsAt0_A m c ⟨0, h⟩ rfl h5]
    dsimp only
    rw [sout_A, step_apply m c ⟨0, h⟩ _ r l o ho]
    rw [show (zero (F := Ideal) : S1024x512.Idx → EReal) (ix2 r l) = 0 from Ideal.ofBits_zero_f32, zero_add]
    simp
  | succ n ih =>
    intro h o ho h5
    have hN := lt_of_lt_of_eq h N_0
    by_cases h0 : (n + 1) % 6 = 0
    · rw [outsAt0_A m c ⟨n + 1, h⟩ h0 h5]
      dsimp only
      rw [sout_A, step_apply m c ⟨n + 1, h⟩ _ r l o ho]
      rw [show (zero (F := Ideal) : S1024x512.Idx → EReal) (ix2 r l) = 0 from Ideal.ofBits_zero_f32, zero_add]
      dsimp only
      rw [h0]
      simp
    · rw [outsAt0_B m c ⟨n + 1, h⟩ h0 h5]
      dsimp only
      rw [sout_B, step_apply m c ⟨n + 1, h⟩ _ r l o ho]
      show ((outsAt0 m c n _).2 : S1024x512.Idx → EReal) (ix2 r l) + _ = _
      rw [ih _ o (by omega) (by omega)]
      dsimp only
      rw [show 1024 * ((n + 1) % 6 + 1) = 1024 * (n % 6 + 1) + 1024 from by omega, Finset.sum_range_add,
        show 1024 * ((n + 1) % 6) = 1024 * (n % 6 + 1) from by omega]

/-- What a column block's last point writes: all 6144 terms. -/
theorem out_apply (c : Dev nD) (t : Fin cfg0.N) (h5 : t.val % 6 = 5) (r : Fin 1024) (l : Fin 512) (o : Fin 4096) (ho : o.val = 512 * (t.val / 6) + l.val) :
    ((outsAt0 m c t.val t.isLt).1 : S1024x512.Idx → EReal) (ix2 r l) = ∑ x ∈ Finset.range 6144, term m c r o x := by
  have hN := lt_of_lt_of_eq t.isLt N_0
  rw [outsAt0_C m c t (by omega) h5]
  dsimp only
  rw [out_C]
  show (step (F := Ideal) _ _ _ _ _ : S1024x512.Idx → EReal) (ix2 r l) = _
  rw [step_apply m c t _ r l o ho, acc_apply m c r l _ _ o (by omega) (by omega)]
  rw [show (6144 : ℕ) = 1024 * ((t.val - 1) % 6 + 1) + 1024 from by omega, Finset.sum_range_add,
        show 1024 * (t.val % 6) = 1024 * ((t.val - 1) % 6 + 1) from by omega]

/-- The whole product: gradient times the dequantised weight, transposed. -/
def product (g : S1024x6144.Idx → EReal) (wc : S4096x6144.Idx → EReal) (ws : S32x48.Idx → EReal) : S1024x4096.Idx → EReal :=
  fun j => ∑ x : Fin 6144, g (ix2 (j 0) x) * deqW wc ws (j 1) x

theorem G3_eq (c : Dev nD) : (G3 m c : S1024x4096.Idx → EReal) = product (gA m c) (wcA m c) (wsA m c) := by
  funext j
  have h0 : (j 0).val < 1024 := (j 0).isLt
  have h1 : (j 1).val < 4096 := (j 1).isLt
  have hp : pt3Of j < cfg0.N := by rw [show cfg0.N = 48 from N_0]; show 6 * (8 * ((j 0).val / 1024 - 0) + 1 * ((j 1).val / 512 - 0)) + 5 < 48; omega
  unfold G3
  rw [dif_pos hp, ← outsAt0_sweep m c (pt3Of j) hp]
  rw [show loc3Of j = ix2 (j 0) ⟨(j 1).val % 512, Nat.mod_lt _ (by decide)⟩ from by
    funext a
    match a with
    | ⟨0, _⟩ => exact Fin.ext (Nat.mod_eq_of_lt h0)
    | ⟨1, _⟩ => rfl]
  have hq : pt3Of j = 6 * ((j 1).val / 512) + 5 := by show 6 * (8 * ((j 0).val / 1024 - 0) + 1 * ((j 1).val / 512 - 0)) + 5 = _; omega
  have := out_apply m c ⟨pt3Of j, hp⟩ (by show pt3Of j % 6 = 5; omega) (j 0) ⟨(j 1).val % 512, Nat.mod_lt _ (by decide)⟩ (j 1)
    (by show (j 1).val = 512 * (pt3Of j / 6) + (j 1).val % 512; omega)
  refine this.trans ?_
  rw [Finset.sum_range]
  refine Finset.sum_congr rfl fun x _ => ?_
  unfold term
  rw [dif_pos x.isLt]

end Cert.DgradIdeal.Whole
-- ==== Proof.DgradRef.lean ====
module

public import proofs.«01_k».proof.Proof.DgradValue
public import proofs.«01_k».proof.Proof.Gen.DgradRefIdeal.Value
public import Idealize.ShloMosaic.Lib.StableHlo.Run

@[expose] public section

set_option maxRecDepth 16384

noncomputable section

open Idealize.ShloMosaic Idealize.ShloMosaic.TcCoe Idealize.SL.Sem
open Idealize.ShloMosaic.ValueIdx (ix2 ix4 eq_ix2)

namespace Cert.DgradRefIdeal.Whole

open Cert.DgradRefIdeal Cert.DgradRefIdeal.Gen Cert.DgradRefIdeal.Value
open Cert.DgradIdeal.Whole (deqW product)

variable (m : (ℓ : Loc nD τ sig) → Buf (Elt Ideal) ℓ) (ρ : Dev nD → PrngReg)

theorem hz : (![0, 0] : Fin 2 → Nat) = fun _ => 0 := funext fun a => by fin_cases a <;> rfl

abbrev gA (c : Dev nD) : S1024x6144.Idx → EReal := m ((c : Thread nD τ).loc main_arg0)
abbrev wcA (c : Dev nD) : S4096x6144.Idx → EReal := m ((c : Thread nD τ).loc main_arg1)
abbrev wsA (c : Dev nD) : S32x48.Idx → EReal := m ((c : Thread nD τ).loc main_arg2)

/-- The scales the host spread over their blocks. -/
theorem V_scale (c : Dev nD) (o : Fin 4096) (x : Fin 6144) :
    (V m c main_v3 : S4096x6144.Idx → EReal) (ix2 o x) = wsA m c (ix2 ⟨o.val / 128, by omega⟩ ⟨x.val / 128, by omega⟩) := by
  have e : (V m c main_v3 : S4096x6144.Idx → EReal) = shapeCast S4096x6144 (broadcastInDim S32x128x48x128 ![0, 1, 2, 3] bcast_S32x1x48x1_S32x128x48x128_0_1_2_3
      (broadcastInDim S32x1x48x1 ![0, 2] bcast_S32x48_S32x1x48x1_0_2 (wsA m c))) shapeCasts_S32x128x48x128_S4096x6144 := by
    show StableHlo.after hostOps0 _ _ = _
    after_results
    rfl
  rw [e]
  refine (shapeCast_apply _ _ _ (ix4 ⟨o.val / 128, by omega⟩ ⟨o.val % 128, by omega⟩ ⟨x.val / 128, by omega⟩ ⟨x.val % 128, by omega⟩ : S32x128x48x128.Idx) (by
    rw [Shape.rowMajor_val_two, Shape.rowMajor_val_four]
    show ((o.val / 128 * 128 + o.val % 128) * 48 + x.val / 128) * 128 + x.val % 128 = o.val * 6144 + x.val
    omega)).trans ?_
  refine (broadcastInDim_apply _ _ _ _ (ix4 ⟨o.val / 128, by omega⟩ 0 ⟨x.val / 128, by omega⟩ 0 : S32x1x48x1.Idx) (fun a => by
    match a with
    | ⟨0, _⟩ => rfl
    | ⟨1, _⟩ => rfl
    | ⟨2, _⟩ => rfl
    | ⟨3, _⟩ => rfl)).trans ?_
  exact broadcastInDim_apply _ _ _ _ (ix2 ⟨o.val / 128, by omega⟩ ⟨x.val / 128, by omega⟩ : S32x48.Idx) (fun a => by
    match a with
    | ⟨0, _⟩ => rfl
    | ⟨1, _⟩ => rfl)

theorem N1 : cfg0.N = 1 := N_0
theorem index_eq : ∀ t : Fin cfg0.N, win0_0.index t 0 = 0 ∧ win0_0.index t 1 = 0
    ∧ win0_1.index t 0 = 0 ∧ win0_1.index t 1 = 0 ∧ win0_2.index t 0 = 0 ∧ win0_2.index t 1 = 0 ∧ win0_3.index t 0 = 0 ∧ win0_3.index t 1 = 0 :=
  (by decide +kernel : ∀ t : Fin grid0.N, _)

theorem blk_g (c : Dev nD) (t : Fin cfg0.N) (j : S1024x6144.Idx) : (iblk m c 0 t : S1024x6144.Idx → EReal) j = gA m c j := by
  obtain ⟨e0, e1, -⟩ := index_eq t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * (j 0).val = (j 0).val; omega
  | ⟨1, _⟩ => show win0_0.index t 1 * 6144 + 1 * (j 1).val = (j 1).val; omega

theorem blk_wc (c : Dev nD) (t : Fin cfg0.N) (j : S4096x6144.Idx) : (iblk m c 1 t : S4096x6144.Idx → EReal) j = wcA m c j := by
  obtain ⟨-, -, e0, e1, -⟩ := index_eq t
  unfold iblk
  rw [View.read_apply]
  show V m c main_arg1 _ = m (c.tc.loc main_arg1) _
  rw [V_main_arg1]
  congr 1
  funext a
  apply Fin.ext
  match a with
  | ⟨0, _⟩ => show win0_1.index t 0 * 4096 + 1 * (j 0).val = (j 0).val; omega
  | ⟨1, _⟩ => show win0_1.index t 1 * 6144 + 1 * (j 1).val = (j 1).val; omega

theorem blk_ws (c : Dev nD) (t : Fin cfg0.N) (j : S4096x6144.Idx) : (iblk m c 2 t : S4096x6144.Idx → EReal) j = (V m c main_v3 : S4096x6144.Idx → EReal) j := by
  obtain ⟨-, -, -, -, e0, e1, -⟩ := index_eq t
  unfold iblk
  rw [View.read_apply]
  show V m c main_v3 _ = V m c main_v3 _
  congr 1
  funext a
  apply Fin.ext
  match a with
  | ⟨0, _⟩ => show win0_2.index t 0 * 4096 + 1 * (j 0).val = (j 0).val; omega
  | ⟨1, _⟩ => show win0_2.index t 1 * 6144 + 1 * (j 1).val = (j 1).val; omega

theorem out_apply (c : Dev nD) (t : Fin cfg0.N) :
    (out0_3 (F := Ideal) (iblk m c 0 t) (iblk m c 1 t) (iblk m c 2 t) : S1024x4096.Idx → EReal) = product (gA m c) (wcA m c) (wsA m c) := by
  unfold out0_3
  rw [View.canon_unit_zero hz, View.ld_unit_zero (S := S4096x6144) hz, View.ld_unit_zero (S := S4096x6144) hz, View.ld_unit_zero (S := S1024x6144) hz]
  unfold k0_pay1
  simp only [shapeCast_self]
  funext j
  obtain ⟨r, o, rfl⟩ : ∃ (r : Fin 1024) (o : Fin 4096), j = ix2 r o := ⟨j 0, j 1, eq_ix2 j⟩
  show FloatOps.matmul (F := Ideal) (φ₁ := .bf16) (φ₂ := .bf16) (DotDims.transposedRhs 1024 6144 4096) none _ _ _ (ix2 r o) = _
  rw [Ideal.matmul_transposedRhs_apply]
  rw [show (constant (F := Ideal) S1024x4096 .f32 0x00000000#32 : S1024x4096.Idx → EReal) (ix2 r o) = 0 from Ideal.ofBits_zero_f32, zero_add]
  unfold product
  refine Finset.sum_congr rfl fun x _ => ?_
  rw [blk_g]
  congr 1
  unfold deqW
  show @HMul.hMul EReal EReal EReal _ ((iblk m c 1 t : S4096x6144.Idx → EReal) (ix2 o x)) ((iblk m c 2 t : S4096x6144.Idx → EReal) (ix2 o x)) = _
  rw [blk_wc, blk_ws, V_scale]

theorem flushed_eq (c : Dev nD) (t : Fin cfg0.N) (hf : (cfg0.win 3).flush t = true) :
    (dats m 0 c).flushed 3 t = ((cfg0.win 3).blk t).view.read (Elt Ideal) (product (gA m c) (wcA m c) (wsA m c)) := by
  rw [flushed3, out_apply]
  obtain ⟨-, -, -, -, -, -, e0, e1⟩ := index_eq t
  have hz' : (fun a => win0_3.index t a * main_v4.ty.shape.size a) = fun _ => 0 := funext fun a => by
    match a with
    | ⟨0, _⟩ => show win0_3.index t 0 * _ = 0; rw [e0, Nat.zero_mul]
    | ⟨1, _⟩ => show win0_3.index t 1 * _ = 0; rw [e1, Nat.zero_mul]
  exact (Memref.read_access_unit_zero (Elt Ideal) main_v4 hz' (fun a => by rw [congrFun hz' a]; simp) _).symm

theorem final (c : Dev nD) : (dats m 0 c).arrAt 3 cfg0.N = product (gA m c) (wcA m c) (wsA m c) :=
  (dats m 0 c).arrAt_eq_of_cover 3 _ (flushed_eq m c) fun i => by
    let t : Fin cfg0.N := ⟨0, by rw [N1]; decide⟩
    refine ⟨t, (by decide +kernel : ∀ t : Fin grid0.N, win0_3.flush t = true) t, ?_⟩
    show i ∈ ((View.whole main_v4).slice (win0_3.rect t)).set
    rw [View.set_slice_whole, Rect.mem_set_unit]
    obtain ⟨-, -, -, -, -, -, e0, e1⟩ := index_eq t
    intro a
    have h0 : (i 0 : Nat) < 1024 := (i 0).isLt
    have h1 : (i 1 : Nat) < 4096 := (i 1).isLt
    match a with
    | ⟨0, _⟩ => show win0_3.index t 0 * 1024 ≤ (i 0 : Nat) ∧ (i 0 : Nat) < win0_3.index t 0 * 1024 + 1024; omega
    | ⟨1, _⟩ => show win0_3.index t 1 * 4096 ≤ (i 1 : Nat) ∧ (i 1 : Nat) < win0_3.index t 1 * 4096 + 4096; omega

end Cert.DgradRefIdeal.Whole
-- ==== Proof.DgradClaim.lean ====
module

public import proofs.«01_k».proof.Defs
public import proofs.«01_k».proof.Proof.DgradValue
public import proofs.«01_k».proof.Proof.DgradRef

@[expose] public section

noncomputable section

open Idealize.ShloMosaic Idealize.ShloMosaic.TcCoe Idealize.SL.Sem

namespace Cert.DgradClaim

/-- Both programs end with the gradient times the dequantised weight. -/
theorem algebraic : Cert.algebraic_DgradIdeal_DgradRefIdeal (hDgradIdeal := Cert.DgradIdeal.Gen.facts) (hDgradRefIdeal := Cert.DgradRefIdeal.Gen.facts) := by
  intro m g m' g' _ hargs
  refine ⟨fun c => Cert.DgradIdeal.Whole.product (Cert.DgradIdeal.Whole.gA m c) (Cert.DgradIdeal.Whole.wcA m c) (Cert.DgradIdeal.Whole.wsA m c), ?_, ?_⟩
  · refine (θ_run _ _ _).mono (fun r h c => ?_) (Cert.DgradIdeal.Value.run (F := Ideal) m g)
    obtain ⟨h0, h1⟩ := h c
    exact ⟨h0.trans (Cert.DgradIdeal.Whole.G3_eq m c), h1⟩
  · refine (θ_run _ _ _).mono (fun r h c => ?_) (Cert.DgradRefIdeal.Value.run_blocks (F := Ideal) m' g')
    obtain ⟨h0, h1⟩ := h c
    obtain ⟨a0, a1, a2⟩ := hargs c
    refine ⟨(h0.trans (Cert.DgradRefIdeal.Whole.final m' c)).trans ?_, h1⟩
    have e0 : Cert.DgradRefIdeal.Whole.gA m' c = Cert.DgradIdeal.Whole.gA m c := a0
    have e1 : Cert.DgradRefIdeal.Whole.wcA m' c = Cert.DgradIdeal.Whole.wcA m c := a1
    have e2 : Cert.DgradRefIdeal.Whole.wsA m' c = Cert.DgradIdeal.Whole.wsA m c := a2
    rw [e0, e1, e2]

end Cert.DgradClaim

end
-- ==== Proof.QuantHead.lean ====
/- One head of one tile, as the kernel computes it: the values it quantises, their exponent, scale and codes. Each of the
   48 heads' stores is this at its head. -/
module

public import proofs.«01_k».proof.Proof.Gen.QuantIdeal.Frame
public import Idealize.ShloMosaic.Lib.Pipeline.Value
public import Idealize.ShloMosaic.Lib.ValueIdxCore

@[expose] public section

set_option maxRecDepth 16384

noncomputable section

open Idealize.ShloMosaic Idealize.ShloMosaic.TcCoe Idealize.SL.Sem
open Idealize.ShloMosaic.ValueIdx (ix2)

namespace Cert.QuantHead

open Cert.QuantIdeal Cert.QuantIdeal.Gen

variable {F : FTy → Type} [FloatOps F] [Named F]

/-- One head of a pair: the even rows or the odd rows of the pair's rows. -/
def half (p : Fin 2) (raw : Vec F S128x2x128 .bf16) : FVec F S128x128 .bf16 :=
  shapeCast S128x128 (rowsOfParity p S128x1x128 raw bitcasts_S128x2x128_w16_S128x1x128_w32) shapeCasts_S128x1x128_S128x128

/-- The rotary turn of a head: the head times the cosines plus the head with its rotary halves swapped times the sines. -/
def turn (c s : FVec F S128x128 .f32) (x : FVec F S128x128 .bf16) : FVec F S128x128 .f32 :=
  addf (mulf (extf .f32 x bitsLt_bf16_f32) c)
    (mulf (extf .f32 (select (cmpi .slt (iota .tc S128x128 32 [1] iota_S128x128_d1_w32) (broadcast S128x128 32#32))
        (dynamicRotate 1 96#32 none x rotates_S128x128_d1)
        (select (cmpi .slt (iota .tc S128x128 32 [1] iota_S128x128_d1_w32) (broadcast S128x128 64#32))
          (dynamicRotate 1 32#32 none x rotates_S128x128_d1) x)) bitsLt_bf16_f32) s)

/-- The scaled maximum of a head's magnitudes. -/
def tops (v : FVec F S128x128 .f32) : FVec F S128x1 .f32 :=
  mulf (shapeCast S128x1 (multiReduction .maximumf [1] S128 (absf v) 0xFF800000#32 reduces_S128x128_S128 (.inl rfl) rfl)
      shapeCasts_S128_S128x1) (broadcast S128x1 (Scalar.ofBits .f32 0x37924925#32))

/-- The biased exponent of a column of values: the largest count whose power of two is at most the value. -/
def biased (t : FVec F S128x1 .f32) : IVec S128x1 32 :=
  shapeCast S128x1 (multiReductionI .maxsi [1] S128
    (select (cmpf .oge (broadcastTo S128x256 t broadcasts_S128x1_S128x256)
        (bitcastToFloat .f32 (shli (iota .tc S128x256 32 [1] iota_S128x256_d1_w32) (broadcast S128x256 23#32))))
      (iota .tc S128x256 32 [1] iota_S128x256_d1_w32) (broadcast S128x256 0#32)) 2147483648#32 reduces_S128x256_S128 rfl)
    shapeCasts_S128_S128x1

/-- The exponent of the scale, from the biased exponent. -/
def unbias (b : IVec S128x1 32) : IVec S128x1 32 :=
  select (ori (cmpi .eq b (broadcast S128x1 0#32)) (cmpi .eq b (broadcast S128x1 255#32))) (broadcast S128x1 0#32)
    (subi b (broadcast S128x1 126#32))

def expo (v : FVec F S128x128 .f32) : IVec S128x1 32 := unbias (biased (tops v))

/-- The scale of each row. -/
def scale (v : FVec F S128x128 .f32) : FVec F S128x1 .f32 :=
  bitcastToFloat .f32 (shli (addi (broadcast S128x1 127#32) (expo v)) (broadcast S128x1 23#32))

/-- The codes of each row. -/
def codes (v : FVec F S128x128 .f32) : FVec F S128x128 .fp8e5m2 :=
  truncf .fp8e5m2 (minimumf (broadcast S128x128 (Scalar.ofBits .f32 0x47600000#32))
    (maximumf (broadcast S128x128 (Scalar.ofBits .f32 0xC7600000#32))
      (mulf v (broadcastTo S128x128 (bitcastToFloat .f32 (shli (subi (broadcast S128x1 127#32) (expo v)) (broadcast S128x1 23#32)))
        broadcasts_S128x1_S128x128)))) bitsLt_fp8e5m2_f32

/-- The codes times the scales. -/
def coded (v : FVec F S128x128 .f32) : FVec F S128x128 .bf16 :=
  mulf (extf .bf16 (codes v) bitsLt_fp8e5m2_bf16)
    (broadcastTo S128x128 (truncf .bf16 (scale v) bitsLt_bf16_f32) broadcasts_S128x1_S128x128)

theorem inb_q (p : Fin 16) : ∀ a : Fin 3, (![0, 2 * p.val, 0] : Fin 3 → ℕ) a + S128x2x128.size a ≤ S128x32x128.size a := by
  intro a; have := p.isLt; fin_cases a <;> simp <;> omega

theorem inb_k (p : Fin 4) : ∀ a : Fin 3, (![0, 2 * p.val, 0] : Fin 3 → ℕ) a + S128x2x128.size a ≤ S128x8x128.size a := by
  intro a; have := p.isLt; fin_cases a <;> simp <;> omega

/-- A pair of query heads of the tile, -/
def pairQ (x : Vec F S128x32x128 .bf16) (p : Fin 16) : Vec F S128x2x128 .bf16 :=
  View.ld x (Rect.unit (s := S128x32x128) ![0, 2 * p.val, 0] S128x2x128.size (inb_q p))

/-- and of key or value heads. -/
def pairK (x : Vec F S128x8x128 .bf16) (p : Fin 4) : Vec F S128x2x128 .bf16 :=
  View.ld x (Rect.unit (s := S128x8x128) ![0, 2 * p.val, 0] S128x2x128.size (inb_k p))

variable (x0 : Vec F S128x32x128 .bf16) (x1 : Vec F S128x8x128 .bf16) (x2 : Vec F S128x8x128 .bf16) (x3 : Vec F S1x1x128 .i32)

/-- What head `h` of the tile quantises. -/
def head (h : Fin 48) : FVec F S128x128 .f32 :=
  if h1 : h.val < 32 then
    turn (k0_pay7 (View.ld x3 r0_0)) (k0_pay8 (View.ld x3 r0_0)) (half ⟨h.val % 2, by omega⟩ (pairQ x0 ⟨h.val / 2, by omega⟩))
  else if h2 : h.val < 40 then
    turn (k0_pay7 (View.ld x3 r0_0)) (k0_pay8 (View.ld x3 r0_0)) (half ⟨h.val % 2, by omega⟩ (pairK x1 ⟨(h.val - 32) / 2, by omega⟩))
  else
    extf .f32 (half ⟨h.val % 2, by omega⟩ (pairK x2 ⟨(h.val - 40) / 2, by omega⟩)) bitsLt_bf16_f32

theorem inb_head (h : Fin 48) : ∀ a : Fin 2, (![0, 128 * h.val] : Fin 2 → ℕ) a + S128x128.size a ≤ S128x6144.size a := by
  intro a; have := h.isLt; fin_cases a <;> simp <;> omega

/-- The columns of head `h`. -/
abbrev cols (h : Fin 48) : Rect S128x6144 := Rect.unit (s := S128x6144) ![0, 128 * h.val] S128x128.size (inb_head h)

/-- The stores of the heads below `n`, last first. -/
def stores {e : EltTy} (P : Fin 48 → S128x128.Idx → Elt F e) : (n : ℕ) → n ≤ 48 → List (View.Piece (Elt F) S128x6144 e)
  | 0, _ => []
  | n + 1, hn => ⟨cols ⟨n, hn⟩, P ⟨n, hn⟩⟩ :: stores P n (Nat.le_of_succ_le hn)

theorem out4_eq : out0_4 x0 x1 x2 x3 = View.canon (stores (fun h => codes (head x0 x1 x2 x3 h)) 48 le_rfl) := rfl

theorem out6_eq : out0_6 x0 x1 x2 x3 = View.canon (stores (fun h => coded (head x0 x1 x2 x3 h)) 48 le_rfl) := rfl

/-- The scales of the heads below `n`, each in its column. -/
def scales (P : Fin 48 → FVec F S128x1 .f32) : (n : ℕ) → n ≤ 48 → FVec F S128x48 .f32
  | 0, _ => broadcast S128x48 (Scalar.ofBits .f32 0x00000000#32)
  | n + 1, hn => select (cmpi .eq (iota .tc S128x48 32 [1] iota_S128x48_d1_w32) (broadcast S128x48 (BitVec.ofNat 32 n)))
      (broadcastTo S128x48 (shapeCast S128x1 (P ⟨n, hn⟩) shapeCasts_S128x1_S128x1) broadcasts_S128x1_S128x48)
      (scales P n (Nat.le_of_succ_le hn))

theorem out5_eq : out0_5 x0 x1 x2 x3
    = View.canon [(⟨r0_69, scales (fun h => scale (head x0 x1 x2 x3 h)) 48 le_rfl⟩ : View.Piece (Elt F) S128x48 .f32)] := rfl

end Cert.QuantHead

end
-- ==== Proof.QuantMath.lean ====
/- The numbers behind the quantiser: the power of two a float word denotes, the exponent found by counting the powers of
   two at most a value against the floor of its binary logarithm, and the inverse frequencies in their two forms. -/
module

public import Idealize.ShloMosaic.PureOps
public import Idealize.ShloMosaic.PureOps.Ideal.Laws
public import Mathlib.Analysis.SpecialFunctions.Pow.Real
public import Mathlib.Tactic.FieldSimp

@[expose] public section

set_option maxRecDepth 16384

noncomputable section

open Idealize.ShloMosaic

namespace Cert.QuantMath

/-- A word with an exponent field `k` that is neither zero nor all ones, and significand `f`. -/
theorem ofBits_normal (b : BitVec 32) (k f : ℕ) (neg : Bool) (hs : (b.extractLsb' 31 1 == 1#1) = neg) (hk : (b.extractLsb' 23 8).toNat = k)
    (hf : (b.extractLsb' 0 23).toNat = f) (h1 : 1 ≤ k) (h2 : k ≤ 254) :
    Ideal.ofBits .f32 b = (((if neg then -1 else 1) * (2 ^ 23 + f : ℕ) * (2 : ℝ) ^ ((k : ℤ) - 127 - 23) : ℝ) : EReal) := by
  show Ideal.ieee 8 23 b = _
  unfold Ideal.ieee
  simp only [hs, hk, hf]
  rw [if_neg (by norm_num; omega), if_neg (by omega)]
  norm_num

/-- A word of sign 0, exponent field `k` and significand 0 is the power of two of that exponent. -/
theorem ofBits_pow (b : BitVec 32) (k : ℕ) (hs : b.extractLsb' 31 1 = 0#1) (hk : (b.extractLsb' 23 8).toNat = k)
    (hf : (b.extractLsb' 0 23).toNat = 0) (h1 : 1 ≤ k) (h2 : k ≤ 254) :
    Ideal.ofBits .f32 b = (((2 : ℝ) ^ ((k : ℤ) - 127) : ℝ) : EReal) := by
  rw [ofBits_normal b k 0 false (by rw [hs]; decide) hk hf h1 h2]
  congr 1
  have : ((2 : ℝ) ^ ((k : ℤ) - 127)) = (2 : ℝ) ^ (23 : ℤ) * (2 : ℝ) ^ ((k : ℤ) - 127 - 23) := by
    rw [← zpow_add₀ (by norm_num)]; congr 1; ring
  norm_num [this]

/-- The count's words. -/
def word (k : Fin 256) : BitVec 32 := IntOp.shli .vector (BitVec.ofNat 32 k.val) 23#32

theorem word_fields : ∀ k : Fin 256, (word k).extractLsb' 31 1 = 0#1 ∧ ((word k).extractLsb' 23 8).toNat = k.val
    ∧ ((word k).extractLsb' 0 23).toNat = 0 := by decide +kernel

theorem word_zero : Ideal.ofBits .f32 (word 0) = 0 := by
  rw [show word 0 = 0#32 from by decide +kernel]; exact Ideal.ofBits_zero_f32

theorem word_pow (k : Fin 256) (h1 : 1 ≤ k.val) (h2 : k.val ≤ 254) :
    Ideal.ofBits .f32 (word k) = (((2 : ℝ) ^ ((k.val : ℤ) - 127) : ℝ) : EReal) :=
  ofBits_pow _ _ (word_fields k).1 (word_fields k).2.1 (word_fields k).2.2 h1 h2

theorem word_top : Ideal.ofBits .f32 (word 255) = ⊤ := by
  show Ideal.ieee 8 23 (word 255) = ⊤
  unfold Ideal.ieee
  obtain ⟨a, b, c⟩ := word_fields 255
  simp only [a, b, c]
  norm_num

/-- The largest count whose word's value is at most `t`. -/
def count (t : EReal) : BitVec 32 :=
  (Finset.univ : Finset (Fin 256)).fold IntOp.maxsi 2147483648#32 fun k =>
    Scalar.select (Ideal.cmp .oge t (Ideal.ofBits .f32 (word k))) (BitVec.ofNat 32 k.val) 0#32

theorem toInt_maxsi (x y : BitVec 32) : (IntOp.maxsi x y).toInt = max x.toInt y.toInt := by
  unfold IntOp.maxsi
  split
  · next h => rw [max_eq_left]; exact le_of_lt (by simpa [BitVec.slt] using h)
  · next h => rw [max_eq_right]; simpa [BitVec.slt] using h

theorem toInt_count : ∀ n : Fin 256, (BitVec.ofNat 32 n.val).toInt = (n.val : ℤ) := by decide +kernel

theorem fold_count (n : Fin 256) : ((Finset.univ : Finset (Fin 256)).fold IntOp.maxsi 2147483648#32 fun k =>
    if k.val ≤ n.val then BitVec.ofNat 32 k.val else 0#32) = BitVec.ofNat 32 n.val := by
  apply BitVec.eq_of_toInt_eq
  rw [← Finset.fold_hom (op := IntOp.maxsi) (op' := max) (m := fun x : BitVec 32 => x.toInt) toInt_maxsi, toInt_count n]
  apply le_antisymm
  · rw [Finset.fold_max_le]
    refine ⟨?_, fun k _ => ?_⟩
    · have : (2147483648#32).toInt = -2147483648 := by decide
      rw [this]; omega
    · split
      · rw [toInt_count]; omega
      · simp
  · rw [Finset.le_fold_max]
    exact .inr ⟨n, Finset.mem_univ _, by simp [toInt_count n]⟩

/-- `n` is the biased exponent of `r`, zero below the smallest normal number. -/
def IsCount (r : ℝ) (n : ℕ) : Prop :=
  n ≤ 252 ∧ (n = 0 ∧ r < (2 : ℝ) ^ (-126 : ℤ) ∨ 1 ≤ n ∧ (2 : ℝ) ^ ((n : ℤ) - 127) ≤ r ∧ r < (2 : ℝ) ^ ((n : ℤ) - 126))

theorem exists_count (r : ℝ) (h1 : r < (2 : ℝ) ^ (126 : ℤ)) : ∃ n, IsCount r n := by
  by_cases h : r < (2 : ℝ) ^ (-126 : ℤ)
  · exact ⟨0, by omega, .inl ⟨rfl, h⟩⟩
  · have hp : 0 < r := lt_of_lt_of_le (by positivity) (not_lt.1 h)
    obtain ⟨z, a, b⟩ := exists_mem_Ico_zpow hp (by norm_num : (1 : ℝ) < 2)
    have l1 : z < 126 := (zpow_lt_zpow_iff_right₀ (by norm_num : (1 : ℝ) < 2)).1 (lt_of_le_of_lt a h1)
    have l2 : -126 < z + 1 := (zpow_lt_zpow_iff_right₀ (by norm_num : (1 : ℝ) < 2)).1 (lt_of_le_of_lt (not_lt.1 h) b)
    refine ⟨(z + 127).toNat, by omega, .inr ⟨by omega, ?_, ?_⟩⟩
    · rw [Int.toNat_of_nonneg (by omega)]; ring_nf; exact a
    · rw [Int.toNat_of_nonneg (by omega)]
      have : z + 127 - 126 = z + 1 := by ring
      rw [this]; exact b

theorem count_eq (r : ℝ) (n : ℕ) (h0 : 0 ≤ r) (h : IsCount r n) : count (r : EReal) = BitVec.ofNat 32 n := by
  obtain ⟨hn, hc⟩ := h
  refine Eq.trans ?_ (fold_count ⟨n, by omega⟩)
  unfold count
  congr 1
  funext k
  have hk := k.isLt
  unfold Scalar.select
  by_cases k0 : k.val = 0
  · have : k = 0 := Fin.ext k0
    subst this
    split <;> split <;> rfl
  have key : Ideal.cmp .oge (r : EReal) (Ideal.ofBits .f32 (word k)) = 1 ↔ k.val ≤ n := by
    show BitVec.ofBool (decide (Ideal.ofBits .f32 (word k) ≤ (r : EReal))) = (1 : BitVec 1) ↔ _
    rw [show (BitVec.ofBool (decide (Ideal.ofBits .f32 (word k) ≤ (r : EReal))) = (1 : BitVec 1))
      = (Ideal.ofBits .f32 (word k) ≤ (r : EReal)) from by
        by_cases hh : Ideal.ofBits .f32 (word k) ≤ (r : EReal) <;> simp [hh]]
    by_cases k1 : k.val = 255
    · have : k = 255 := Fin.ext k1
      subst this
      rw [word_top]
      simp
      omega
    rw [word_pow k (by omega) (by omega), EReal.coe_le_coe_iff]
    constructor
    · intro hle
      by_contra hnk
      rcases hc with ⟨e, hlt⟩ | ⟨e, -, hlt⟩
      · have : (2 : ℝ) ^ (-126 : ℤ) ≤ (2 : ℝ) ^ ((k.val : ℤ) - 127) := zpow_le_zpow_right₀ (by norm_num) (by omega)
        linarith
      · have : (2 : ℝ) ^ ((n : ℤ) - 126) ≤ (2 : ℝ) ^ ((k.val : ℤ) - 127) := zpow_le_zpow_right₀ (by norm_num) (by omega)
        linarith
    · intro hle
      rcases hc with ⟨e, hlt⟩ | ⟨e, hge, -⟩
      · omega
      · exact le_trans (zpow_le_zpow_right₀ (by norm_num) (by omega)) hge
  by_cases hkn : k.val ≤ n
  · rw [if_pos (key.2 hkn), if_pos hkn]
  · rw [if_neg (fun e => hkn (key.1 e)), if_neg hkn]

/-- The exponent of the scale from the count, as the kernel's words. -/
def unb (b : BitVec 32) : BitVec 32 :=
  Scalar.select (IntOp.ori (IntOp.cmpi .eq b 0#32) (IntOp.cmpi .eq b 255#32)) 0#32 (IntOp.subi b 126#32)

/-- The scale's word and its inverse's. -/
def wordUp (b : BitVec 32) : BitVec 32 := IntOp.shli .vector (IntOp.addi 127#32 (unb b)) 23#32
def wordDown (b : BitVec 32) : BitVec 32 := IntOp.shli .vector (IntOp.subi 127#32 (unb b)) 23#32

theorem up_fields : ∀ n : Fin 253, (wordUp (BitVec.ofNat 32 n.val)).extractLsb' 31 1 = 0#1
    ∧ ((wordUp (BitVec.ofNat 32 n.val)).extractLsb' 23 8).toNat = (if n.val = 0 then 127 else n.val + 1)
    ∧ ((wordUp (BitVec.ofNat 32 n.val)).extractLsb' 0 23).toNat = 0 := by decide +kernel

theorem down_fields : ∀ n : Fin 253, (wordDown (BitVec.ofNat 32 n.val)).extractLsb' 31 1 = 0#1
    ∧ ((wordDown (BitVec.ofNat 32 n.val)).extractLsb' 23 8).toNat = (if n.val = 0 then 127 else 253 - n.val)
    ∧ ((wordDown (BitVec.ofNat 32 n.val)).extractLsb' 0 23).toNat = 0 := by decide +kernel

/-- The exponent of the scale of a row whose scaled maximum is `t`: none below the smallest normal number, else one more
    than the floor of the binary logarithm. -/
def expR (t : EReal) : EReal :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32)))
      + Ideal.ofBits .f32 0x3F800000#32)

theorem two_f32 : Ideal.ofBits .f32 0x40000000#32 = ((2 : ℝ) : EReal) := by
  rw [ofBits_pow 0x40000000#32 128 (by decide) (by decide) (by decide) (by omega) (by omega)]; norm_num

theorem one_f32 : Ideal.ofBits .f32 0x3F800000#32 = ((1 : ℝ) : EReal) := by
  rw [ofBits_pow 0x3F800000#32 127 (by decide) (by decide) (by decide) (by omega) (by omega)]; norm_num

theorem tiny_f32 : Ideal.ofBits .f32 0x00800000#32 = (((2 : ℝ) ^ (-126 : ℤ) : ℝ) : EReal) := by
  rw [ofBits_pow 0x00800000#32 1 (by decide) (by decide) (by decide) (by omega) (by omega)]; norm_num

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem log_coe (a : ℝ) (ha : 0 < a) : Ideal.log (a : EReal) = ((Real.log a : ℝ) : EReal) := by
  show (if a ≤ 0 then (⊥ : EReal) else _) = _
  rw [if_neg (not_le.2 ha)]

/-- The exponent as an integer. -/
def expZ (n : ℕ) : ℤ := if n = 0 then 0 else (n : ℤ) - 126

theorem expR_eq (r : ℝ) (n : ℕ) (h : IsCount r n) : expR (r : EReal) = (((expZ n : ℤ) : ℝ) : EReal) := by
  obtain ⟨hn, hc⟩ := h
  unfold expR Scalar.select
  rw [tiny_f32]
  have hcmp : Ideal.cmp .olt (r : EReal) (((2 : ℝ) ^ (-126 : ℤ) : ℝ) : EReal) = BitVec.ofBool (decide (r < (2 : ℝ) ^ (-126 : ℤ))) := by
    show BitVec.ofBool (decide ((r : EReal) < _)) = _
    simp only [EReal.coe_lt_coe_iff]
  rw [hcmp]
  rcases hc with ⟨e, hlt⟩ | ⟨e, hge, hlt⟩
  · rw [decide_eq_true hlt, if_pos (by decide), Ideal.ofBits_zero_f32]
    simp [expZ, e]
  · have h1 : ¬ r < (2 : ℝ) ^ (-126 : ℤ) := by
      rw [not_lt]; exact le_trans (zpow_le_zpow_right₀ (by norm_num) (by omega)) hge
    have hp : 0 < r := lt_of_lt_of_le (by positivity) hge
    rw [decide_eq_false h1, if_neg (by decide), two_f32, one_f32, log_coe r hp, log_coe 2 (by norm_num),
      div_coe _ _ (by have := Real.log_pos (by norm_num : (1 : ℝ) < 2); linarith)]
    have hfl : ⌊Real.log r / Real.log 2⌋ = (n : ℤ) - 127 := by
      rw [Int.floor_eq_iff]
      have hl : 0 < Real.log 2 := Real.log_pos (by norm_num)
      constructor
      · rw [le_div_iff₀ hl, ← Real.log_zpow]
        exact Real.log_le_log (by positivity) hge
      · have : (((n : ℤ) - 127 : ℤ) : ℝ) + 1 = (((n : ℤ) - 126 : ℤ) : ℝ) := by push_cast; ring
        rw [this, div_lt_iff₀ hl, ← Real.log_zpow]
        exact Real.log_lt_log hp hlt
    show (((⌊Real.log r / Real.log 2⌋ : ℤ) : ℝ) : EReal) + _ = _
    rw [hfl, ← EReal.coe_add]
    unfold expZ
    rw [if_neg (by omega)]
    congr 1
    push_cast; ring

/-- The scale and its inverse, as the reference takes them. -/
def up (t : EReal) : EReal := Ideal.pow (Ideal.ofBits .f32 0x40000000#32) (expR t)
def down (t : EReal) : EReal := Ideal.pow (Ideal.ofBits .f32 0x40000000#32) (-(expR t))

theorem pow_two_coe (z : ℤ) : Ideal.pow ((2 : ℝ) : EReal) (((z : ℤ) : ℝ) : EReal) = (((2 : ℝ) ^ z : ℝ) : EReal) :=
  congrArg (fun x : ℝ => (x : EReal)) (Real.rpow_intCast 2 z)

attribute [irreducible] count expR

theorem up_eq (r : ℝ) (h0 : 0 ≤ r) (h1 : r < (2 : ℝ) ^ (126 : ℤ)) : Ideal.ofBits .f32 (wordUp (count r)) = up r := by
  obtain ⟨n, hn⟩ := exists_count r h1
  have hle := hn.1
  obtain ⟨a, b, c⟩ := up_fields ⟨n, by omega⟩
  unfold up
  rw [count_eq r n h0 hn, expR_eq r n hn, two_f32, pow_two_coe, ofBits_pow _ _ a b c (by split <;> omega) (by split <;> omega)]
  exact congrArg (fun z : ℤ => (((2 : ℝ) ^ z : ℝ) : EReal)) (by unfold expZ; split <;> push_cast <;> omega)

theorem down_eq (r : ℝ) (h0 : 0 ≤ r) (h1 : r < (2 : ℝ) ^ (126 : ℤ)) : Ideal.ofBits .f32 (wordDown (count r)) = down r := by
  obtain ⟨n, hn⟩ := exists_count r h1
  have hle := hn.1
  obtain ⟨a, b, c⟩ := down_fields ⟨n, by omega⟩
  unfold down
  rw [count_eq r n h0 hn, expR_eq r n hn, two_f32, ← EReal.coe_neg, ← Int.cast_neg, pow_two_coe,
    ofBits_pow _ _ a b c (by split <;> omega) (by split <;> omega)]
  exact congrArg (fun z : ℤ => (((2 : ℝ) ^ z : ℝ) : EReal)) (by unfold expZ; split <;> push_cast <;> omega)

/-- The rotation's angle of a position at a frequency: the position times a power of two, -/
def angK (p : BitVec 32) (i : Fin 32) : EReal :=
  ((p.toInt : ℝ) : EReal) * Ideal.exp2 ((((BitVec.ofNat 32 i.val).toInt : ℝ) : EReal) * Ideal.ofBits .f32 0xBD000000#32
    * (((Real.log 10000) * (Real.log 2)⁻¹ : ℝ) : EReal))

/-- or over a power of the base. -/
def angR (p : BitVec 32) (i : Fin 32) : EReal :=
  ((p.toInt : ℝ) : EReal) * Ideal.div (Ideal.ofBits .f32 0x3F800000#32) (Ideal.pow (Ideal.ofBits .f32 0x461C4000#32)
    (Ideal.div (Ideal.ofBits .f32 0x00000000#32 + Ideal.ofBits .f32 0x40000000#32 * (((BitVec.ofNat 32 i.val).toInt : ℝ) : EReal))
      (Ideal.ofBits .f32 0x42800000#32)))

def ang (p : BitVec 32) (i : Fin 32) : ℝ := (p.toInt : ℝ) * (1 / Real.rpow 10000 (2 * (i.val : ℝ) / 64))

theorem toInt_small : ∀ i : Fin 32, (BitVec.ofNat 32 i.val).toInt = (i.val : ℤ) := by decide +kernel

theorem angR_eq (p : BitVec 32) (i : Fin 32) : angR p i = ((ang p i : ℝ) : EReal) := by
  unfold angR ang
  have h64 : Ideal.ofBits .f32 0x42800000#32 = ((64 : ℝ) : EReal) := by
    rw [ofBits_pow 0x42800000#32 133 (by decide) (by decide) (by decide) (by omega) (by omega)]; norm_num
  have hb : Ideal.ofBits .f32 0x461C4000#32 = ((10000 : ℝ) : EReal) := by
    rw [ofBits_normal 0x461C4000#32 140 1851392 false (by decide) (by decide) (by decide) (by omega) (by omega)]; norm_num
  rw [one_f32, two_f32, hb, h64, Ideal.ofBits_zero_f32, zero_add, toInt_small, ← EReal.coe_mul, div_coe _ _ (by norm_num)]
  have hp : Real.rpow 10000 (2 * (((i.val : ℤ) : ℤ) : ℝ) / 64) ≠ 0 := ne_of_gt (Real.rpow_pos_of_pos (by norm_num) _)
  show _ * Ideal.div _ ((Real.rpow 10000 (2 * (((i.val : ℤ) : ℤ) : ℝ) / 64) : ℝ) : EReal) = _
  rw [div_coe _ _ hp, ← EReal.coe_mul]
  push_cast
  rfl

theorem angK_eq (p : BitVec 32) (i : Fin 32) : angK p i = ((ang p i : ℝ) : EReal) := by
  unfold angK ang
  have hb : Ideal.ofBits .f32 0xBD000000#32 = ((-(1 / 32) : ℝ) : EReal) := by
    rw [ofBits_normal 0xBD000000#32 122 0 true (by decide) (by decide) (by decide) (by omega) (by omega)]
    exact congrArg _ (by norm_num)
  rw [hb, toInt_small, ← EReal.coe_mul, ← EReal.coe_mul]
  show _ * ((Real.rpow 2 _ : ℝ) : EReal) = _
  rw [← EReal.coe_mul]
  congr 2
  have hl : Real.log 2 ≠ 0 := by have := Real.log_pos (by norm_num : (1 : ℝ) < 2); linarith
  show (2 : ℝ) ^ (_ : ℝ) = 1 / (10000 : ℝ) ^ (_ : ℝ)
  rw [Real.rpow_def_of_pos (by norm_num), Real.rpow_def_of_pos (by norm_num), one_div (Real.exp _), ← Real.exp_neg]
  congr 1
  push_cast
  field_simp
  ring

end Cert.QuantMath

end
-- ==== Proof.QuantRow.lean ====
/- One row of the problem, a token's one head: the rotary turn undone, the scaled maximum, the scale and the codes; and the
   bounds a row of finite values keeps. -/
module

public import proofs.«01_k».proof.Proof.QuantMath

@[expose] public section

set_option maxRecDepth 16384

noncomputable section

open Idealize.ShloMosaic

namespace Cert.QuantRow

open Cert.QuantMath

/-- A row turned back by the angles of position `p`. -/
def rot (p : BitVec 32) (x : Fin 128 → EReal) (l : Fin 128) : EReal :=
  if h : l.val < 32 then
    x l * Ideal.cos (angR p ⟨l.val, h⟩) + x ⟨l.val + 32, by omega⟩ * Ideal.sin (angR p ⟨l.val, h⟩)
  else if h' : l.val < 64 then
    x l * Ideal.cos (angR p ⟨l.val - 32, by omega⟩) - x ⟨l.val - 32, by omega⟩ * Ideal.sin (angR p ⟨l.val - 32, by omega⟩)
  else x l

/-- The scaled maximum of a row's magnitudes. -/
def top (v : Fin 128 → EReal) : EReal :=
  (Finset.univ : Finset (Fin 128)).fold max (Ideal.ofBits .f32 0xFF800000#32) (fun l => max (v l) (-(v l)))
    * Ideal.ofBits .f32 0x37924925#32

/-- The scale of a row, its codes, and the codes times the scale. -/
def scale (v : Fin 128 → EReal) : EReal := up (top v)
def code (v : Fin 128 → EReal) (l : Fin 128) : EReal :=
  min (Ideal.ofBits .f32 0x47600000#32) (max (Ideal.ofBits .f32 0xC7600000#32) (v l * down (top v)))
def coded (v : Fin 128 → EReal) (l : Fin 128) : EReal := code v l * scale v

/-- A row every value of which is a real number of magnitude at most `M`. -/
def Within (M : ℝ) (v : Fin 128 → EReal) : Prop := ∀ l, ∃ r : ℝ, v l = (r : EReal) ∧ |r| ≤ M

theorem rot_within (M : ℝ) (p : BitVec 32) (x : Fin 128 → EReal) (h : Within M x) : Within (2 * M) (rot p x) := by
  intro l
  have hM : 0 ≤ M := by obtain ⟨r, -, hr⟩ := h 0; exact le_trans (abs_nonneg r) hr
  have bound : ∀ a b y z : ℝ, |a| ≤ M → |b| ≤ M → |y| ≤ 1 → |z| ≤ 1 → |a * y + b * z| ≤ 2 * M := by
    intro a b y z ha hb hy hz
    calc |a * y + b * z| ≤ |a * y| + |b * z| := abs_add_le _ _
      _ = |a| * |y| + |b| * |z| := by rw [abs_mul, abs_mul]
      _ ≤ M * 1 + M * 1 := add_le_add (mul_le_mul ha hy (abs_nonneg _) hM) (mul_le_mul hb hz (abs_nonneg _) hM)
      _ = 2 * M := by ring
  unfold rot
  split
  · next h1 =>
    obtain ⟨a, ea, ha⟩ := h l
    obtain ⟨b, eb, hb⟩ := h ⟨l.val + 32, by omega⟩
    rw [ea, eb, angR_eq]
    refine ⟨a * Real.cos (ang p ⟨l.val, h1⟩) + b * Real.sin (ang p ⟨l.val, h1⟩), ?_, bound _ _ _ _ ha hb (Real.abs_cos_le_one _) (Real.abs_sin_le_one _)⟩
    rw [EReal.coe_add, EReal.coe_mul, EReal.coe_mul]; rfl
  split
  · next h1 h2 =>
    obtain ⟨a, ea, ha⟩ := h l
    obtain ⟨b, eb, hb⟩ := h ⟨l.val - 32, by omega⟩
    rw [ea, eb, angR_eq]
    refine ⟨a * Real.cos (ang p ⟨l.val - 32, by omega⟩) + b * (-Real.sin (ang p ⟨l.val - 32, by omega⟩)), ?_,
      bound _ _ _ _ ha hb (Real.abs_cos_le_one _) (by rw [abs_neg]; exact Real.abs_sin_le_one _)⟩
    rw [mul_neg, ← sub_eq_add_neg, EReal.coe_sub, EReal.coe_mul, EReal.coe_mul]; rfl
  · obtain ⟨a, ea, ha⟩ := h l
    exact ⟨a, ea, by linarith⟩

theorem bot_f32 : Ideal.ofBits .f32 0xFF800000#32 = ⊥ := by
  show Ideal.ieee 8 23 0xFF800000#32 = ⊥
  unfold Ideal.ieee
  rw [if_pos (by decide), if_pos (by decide), if_pos (by decide)]

theorem top_real (v : Fin 128 → EReal) (h : Within (2 ^ 129) v) : ∃ r : ℝ, top v = (r : EReal) ∧ 0 ≤ r ∧ r < (2 : ℝ) ^ (126 : ℤ) := by
  have hc : Ideal.ofBits .f32 0x37924925#32 = (((2 ^ 23 + 1198373 : ℕ) * (2 : ℝ) ^ ((111 : ℤ) - 127 - 23) : ℝ) : EReal) := by
    rw [ofBits_normal 0x37924925#32 111 1198373 false (by decide) (by decide) (by decide) (by omega) (by omega)]
    norm_num
  unfold top
  rw [bot_f32, hc]
  generalize hF : (Finset.univ : Finset (Fin 128)).fold max (⊥ : EReal) (fun l => max (v l) (-(v l))) = F
  have h0 : (0 : EReal) ≤ F := by
    rw [← hF, Finset.le_fold_max]
    refine .inr ⟨0, Finset.mem_univ _, ?_⟩
    obtain ⟨r, e, -⟩ := h 0
    rw [e, ← EReal.coe_neg, ← EReal.coe_zero]
    rcases le_total 0 r with hr | hr
    · exact le_max_of_le_left (EReal.coe_le_coe_iff.2 hr)
    · exact le_max_of_le_right (EReal.coe_le_coe_iff.2 (neg_nonneg.2 hr))
  have h1 : F ≤ ((2 ^ 129 : ℝ) : EReal) := by
    rw [← hF, Finset.fold_max_le]
    refine ⟨bot_le, fun l _ => ?_⟩
    obtain ⟨r, e, hr⟩ := h l
    rw [e, ← EReal.coe_neg]
    exact max_le (EReal.coe_le_coe_iff.2 (abs_le'.1 hr).1) (EReal.coe_le_coe_iff.2 (abs_le'.1 hr).2)
  lift F to ℝ using ⟨ne_of_lt (lt_of_le_of_lt h1 (EReal.coe_lt_top _)), ne_of_gt (lt_of_lt_of_le (by simp) h0)⟩ with f
  have g0 : 0 ≤ f := by exact_mod_cast h0
  have g1 : f ≤ 2 ^ 129 := EReal.coe_le_coe_iff.1 h1
  refine ⟨f * ((2 ^ 23 + 1198373 : ℕ) * (2 : ℝ) ^ ((111 : ℤ) - 127 - 23)), (EReal.coe_mul _ _).symm, by positivity, ?_⟩
  have : ((2 ^ 23 + 1198373 : ℕ) : ℝ) * (2 : ℝ) ^ ((111 : ℤ) - 127 - 23) ≤ 1 / 2 ^ 14 := by norm_num
  calc f * ((2 ^ 23 + 1198373 : ℕ) * (2 : ℝ) ^ ((111 : ℤ) - 127 - 23)) ≤ 2 ^ 129 * (1 / 2 ^ 14) :=
        mul_le_mul g1 this (by positivity) (by positivity)
    _ < (2 : ℝ) ^ (126 : ℤ) := by norm_num

/-- The words of the kernel give the scale and its inverse on rows within bounds. -/
theorem scale_eq (v : Fin 128 → EReal) (h : Within (2 ^ 129) v) : Ideal.ofBits .f32 (wordUp (count (top v))) = scale v := by
  obtain ⟨r, e, h0, h1⟩ := top_real v h
  unfold scale
  rw [e]
  exact up_eq r h0 h1

theorem inv_eq (v : Fin 128 → EReal) (h : Within (2 ^ 129) v) : Ideal.ofBits .f32 (wordDown (count (top v))) = down (top v) := by
  obtain ⟨r, e, h0, h1⟩ := top_real v h
  rw [e]
  exact down_eq r h0 h1

/-- The largest finite half-width value, a bound for the inputs. -/
theorem maxBf_f32 : Ideal.ofBits .f32 0x7F7F0000#32 ≤ ((2 ^ 128 : ℝ) : EReal) := by
  rw [ofBits_normal 0x7F7F0000#32 254 8323072 false (by decide) (by decide) (by decide) (by omega) (by omega), EReal.coe_le_coe_iff]
  norm_num

theorem real_of_abs (x : EReal) (h : max x (-x) ≤ Ideal.ofBits .f32 0x7F7F0000#32) : ∃ r : ℝ, x = (r : EReal) ∧ |r| ≤ 2 ^ 128 := by
  have h1 := le_trans h maxBf_f32
  have a : x ≤ ((2 ^ 128 : ℝ) : EReal) := le_trans (le_max_left _ _) h1
  have b : -x ≤ ((2 ^ 128 : ℝ) : EReal) := le_trans (le_max_right _ _) h1
  have hb : x ≠ ⊥ := by
    rintro rfl
    rw [EReal.neg_bot] at b
    exact absurd b (not_le.2 (EReal.coe_lt_top _))
  lift x to ℝ using ⟨ne_of_lt (lt_of_le_of_lt a (EReal.coe_lt_top _)), hb⟩ with r
  refine ⟨r, rfl, abs_le'.2 ⟨EReal.coe_le_coe_iff.1 a, ?_⟩⟩
  rw [← EReal.coe_neg] at b
  exact EReal.coe_le_coe_iff.1 b

end Cert.QuantRow

end
-- ==== Proof.QuantTile.lean ====
/- The quantiser of one head of one tile, read row by row over the extended reals: its scales and codes are the row's. -/
module

public import proofs.«01_k».proof.Proof.QuantHead
public import proofs.«01_k».proof.Proof.QuantRow

@[expose] public section

set_option maxRecDepth 16384

noncomputable section

open Idealize.ShloMosaic Idealize.ShloMosaic.TcCoe Idealize.SL.Sem
open Idealize.ShloMosaic.ValueIdx (ix1 ix2 ix3 eq_ix2)

namespace Cert.QuantTile

open Cert.QuantIdeal Cert.QuantIdeal.Gen Cert.QuantHead Cert.QuantMath

/-- Row `r` of a head. -/
abbrev row (v : FVec Ideal S128x128 .f32) (r : Fin 128) (l : Fin 128) : EReal := v (ix2 r l)

theorem column_apply {α : Type} (x : S128.Idx → α) (r : Fin 128) :
    shapeCast S128x1 x shapeCasts_S128_S128x1 (ix2 r 0) = x (ix1 r) :=
  shapeCast_apply _ _ _ (ix1 r) (by rw [Shape.rowMajor_val_two, Shape.rowMajor_val_one]; show r.val = r.val * 1 + 0; omega)

theorem spread_apply {α : Type} (x : S128x1.Idx → α) (r l : Fin 128) :
    broadcastTo S128x128 x broadcasts_S128x1_S128x128 (ix2 r l) = x (ix2 r 0) :=
  broadcastTo_apply _ _ _ (ix2 r 0) (fun a => by
    match a with
    | ⟨0, _⟩ => rfl
    | ⟨1, _⟩ => rfl)

theorem lift_row (r l : Fin 128) : reduces_S128x128_S128.lift (ix1 r) l = ix2 r l := by
  funext a
  match a with
  | ⟨0, _⟩ => rfl
  | ⟨1, _⟩ => rfl

theorem lift_wide (r : Fin 128) (k : Fin 256) : reduces_S128x256_S128.lift (ix1 r) k = ix2 r k := by
  funext a
  match a with
  | ⟨0, _⟩ => rfl
  | ⟨1, _⟩ => rfl

theorem tops_apply (v : FVec Ideal S128x128 .f32) (r : Fin 128) : tops v (ix2 r 0) = QuantRow.top (row v r) := by
  unfold tops QuantRow.top
  show @HMul.hMul EReal EReal EReal _ (shapeCast S128x1 _ _ (ix2 r 0)) (Ideal.ofBits .f32 0x37924925#32) = _
  refine congrArg (fun z : EReal => z * Ideal.ofBits .f32 0x37924925#32) ?_
  rw [column_apply]
  refine (Ideal.multiReduction_maximumf_single _ _ _ _ _ _).trans ?_
  show Finset.fold max _ (fun l : Fin 128 => absf v (reduces_S128x128_S128.lift (ix1 r) l)) _ = _
  refine congrArg (fun f : Fin 128 → EReal => Finset.fold max (Ideal.ofBits .f32 0xFF800000#32) f Finset.univ) (funext fun l => ?_)
  rw [lift_row]
  rfl

theorem biased_apply (t : FVec Ideal S128x1 .f32) (r : Fin 128) : biased t (ix2 r 0) = QuantMath.count (t (ix2 r 0)) := by
  unfold biased QuantMath.count
  rw [column_apply]
  refine (multiReductionI_eq_fold _ _ _ _ _ _).trans ((Shape.Reduces.fold_filter_drop_single reduces_S128x256_S128 IntOp.maxsi _ _ (ix1 r)).trans ?_)
  show Finset.fold IntOp.maxsi _ (fun k : Fin 256 => select _ _ _ (reduces_S128x256_S128.lift (ix1 r) k)) _ = _
  refine congrArg (fun f : Fin 256 → BitVec 32 => Finset.fold IntOp.maxsi 2147483648#32 f Finset.univ) (funext fun k => ?_)
  rw [lift_wide]
  have e : broadcastTo S128x256 t broadcasts_S128x1_S128x256 (ix2 r k) = t (ix2 r 0) :=
    broadcastTo_apply _ _ _ (ix2 r 0) (fun a => by
      match a with
      | ⟨0, _⟩ => rfl
      | ⟨1, _⟩ => rfl)
  show Scalar.select (Ideal.cmp .oge (broadcastTo S128x256 t broadcasts_S128x1_S128x256 (ix2 r k))
    (Ideal.ofBits .f32 (IntOp.shli .vector (BitVec.ofNat 32 (0 * 256 + k.val)) 23#32))) (BitVec.ofNat 32 (0 * 256 + k.val)) 0#32 = _
  rw [e, zero_mul, zero_add]
  rfl

theorem expo_apply (v : FVec Ideal S128x128 .f32) (r : Fin 128) : expo v (ix2 r 0) = unb (QuantMath.count (QuantRow.top (row v r))) := by
  rw [← tops_apply, ← biased_apply]
  rfl

variable (v : FVec Ideal S128x128 .f32) (r : Fin 128) (h : QuantRow.Within (2 ^ 129) (row v r))
include h

theorem scale_apply : scale v (ix2 r 0) = QuantRow.scale (row v r) := by
  rw [← QuantRow.scale_eq _ h]
  show Ideal.ofBits .f32 (IntOp.shli .vector (IntOp.addi 127#32 (expo v (ix2 r 0))) 23#32) = _
  rw [expo_apply]
  rfl

theorem codes_apply (l : Fin 128) : codes v (ix2 r l) = QuantRow.code (row v r) l := by
  unfold QuantRow.code
  rw [← QuantRow.inv_eq _ h]
  show min (Ideal.ofBits .f32 0x47600000#32) (max (Ideal.ofBits .f32 0xC7600000#32)
    (@HMul.hMul EReal EReal EReal _ (v (ix2 r l)) (broadcastTo S128x128 _ broadcasts_S128x1_S128x128 (ix2 r l)))) = _
  rw [spread_apply]
  show min _ (max _ (@HMul.hMul EReal EReal EReal _ (v (ix2 r l))
    (Ideal.ofBits .f32 (IntOp.shli .vector (IntOp.subi 127#32 (expo v (ix2 r 0))) 23#32)))) = _
  rw [expo_apply]
  rfl

theorem coded_apply (l : Fin 128) : coded v (ix2 r l) = QuantRow.coded (row v r) l := by
  unfold QuantRow.coded
  rw [← codes_apply v r h l, ← scale_apply v r h]
  show @HMul.hMul EReal EReal EReal _ (codes v (ix2 r l)) (broadcastTo S128x128 _ broadcasts_S128x1_S128x128 (ix2 r l)) = _
  rw [spread_apply]
  rfl

end Cert.QuantTile

end
-- ==== Proof.QuantTurn.lean ====
/- The values of one head of one tile over the extended reals: each row the row of the argument, turned back. -/
module

public import proofs.«01_k».proof.Proof.QuantTile
public import Idealize.ShloMosaic.Lib.KernelVsHost
public import Idealize.ShloMosaic.Lib.Pipeline.ValueKit.Tiles

@[expose] public section

set_option maxRecDepth 16384

noncomputable section

open Idealize.ShloMosaic Idealize.ShloMosaic.TcCoe Idealize.SL.Sem
open Idealize.ShloMosaic.ValueIdx (ix1 ix2 ix3 eq_ix2)

namespace Cert.QuantTurn

open Cert.QuantIdeal Cert.QuantIdeal.Gen Cert.QuantHead Cert.QuantMath Cert.QuantTile

/-- One head of a pair at an index. -/
theorem half_apply (p : Fin 2) (raw : Vec Ideal S128x2x128 .bf16) (r l : Fin 128) :
    (half p raw (ix2 r l) : EReal) = raw (ix3 r p l) := by
  unfold half
  refine (shapeCast_apply _ _ _ (ix3 r 0 l : S128x1x128.Idx) (by
    rw [Shape.rowMajor_val_two, Shape.rowMajor_val_three]
    show (r.val * 1 + 0) * 128 + l.val = r.val * 128 + l.val
    omega)).trans ?_
  unfold rowsOfParity
  congr 1
  funext a
  apply Fin.ext
  match a with
  | ⟨0, _⟩ => rfl
  | ⟨1, _⟩ => show 2 * 0 + p.val = p.val; omega
  | ⟨2, _⟩ => rfl

theorem pairQ_apply (x : Vec Ideal S128x32x128 .bf16) (p : Fin 16) (r : Fin 128) (q : Fin 2) (l : Fin 128) :
    (pairQ x p (ix3 r q l) : EReal) = x (ix3 r ⟨2 * p.val + q.val, by omega⟩ l) := by
  unfold pairQ
  exact View.ld_unit_apply_of _ _ _ _ _ _ (fun a => by
    match a with
    | ⟨0, _⟩ => show r.val = 0 + r.val; omega
    | ⟨1, _⟩ => rfl
    | ⟨2, _⟩ => show l.val = 0 + l.val; omega)

theorem pairK_apply (x : Vec Ideal S128x8x128 .bf16) (p : Fin 4) (r : Fin 128) (q : Fin 2) (l : Fin 128) :
    (pairK x p (ix3 r q l) : EReal) = x (ix3 r ⟨2 * p.val + q.val, by omega⟩ l) := by
  unfold pairK
  exact View.ld_unit_apply_of _ _ _ _ _ _ (fun a => by
    match a with
    | ⟨0, _⟩ => show r.val = 0 + r.val; omega
    | ⟨1, _⟩ => rfl
    | ⟨2, _⟩ => show l.val = 0 + l.val; omega)

variable (x3 : Vec Ideal S1x1x128 .i32)

/-- The position of row `r` of the tile. -/
abbrev pos (r : Fin 128) : BitVec 32 := x3 (ix3 0 0 r)

theorem pay5_apply (i : Fin 32) (r : Fin 128) : (k0_pay5 (View.ld x3 r0_0) (ix2 i r) : EReal) = angK (pos x3 r) i := by
  have e : View.ld x3 r0_0 = x3 := View.ld_unit_zero (funext fun a => by fin_cases a <;> rfl) _ _
  rw [e]
  unfold k0_pay5 angK
  have e1 : (broadcastTo S32x128 (sitofp .f32 (shapeCast S1x128 x3 shapeCasts_S1x1x128_S1x128) : FVec Ideal S1x128 .f32) broadcasts_S1x128_S32x128 (ix2 i r) : EReal)
      = (((pos x3 r).toInt : ℝ) : EReal) := by
    refine (broadcastTo_apply _ _ _ (ix2 0 r : S1x128.Idx) (fun a => by
      match a with
      | ⟨0, _⟩ => rfl
      | ⟨1, _⟩ => rfl)).trans ?_
    show (((shapeCast S1x128 x3 shapeCasts_S1x1x128_S1x128 (ix2 0 r)).toInt : ℝ) : EReal) = _
    rw [shapeCast_apply x3 shapeCasts_S1x1x128_S1x128 (ix2 0 r) (ix3 0 0 r) (by
      rw [Shape.rowMajor_val_two, Shape.rowMajor_val_three]
      show (0 * 1 + 0) * 128 + r.val = 0 * 128 + r.val
      omega)]
  show @HMul.hMul EReal EReal EReal _ (broadcastTo S32x128 (sitofp .f32 (shapeCast S1x128 x3 shapeCasts_S1x1x128_S1x128) : FVec Ideal S1x128 .f32) broadcasts_S1x128_S32x128 (ix2 i r))
    (Ideal.exp2 ((((BitVec.ofNat 32 (0 * 32 + i.val)).toInt : ℝ) : EReal) * Ideal.ofBits .f32 0xBD000000#32
      * (((Real.log 10000) * (Real.log 2)⁻¹ : ℝ) : EReal))) = _
  rw [e1, zero_mul, zero_add]

/-- Three stacks of rows, one above the other, read at a row. -/
theorem stack_apply (A B : S32x128.Idx → EReal) (C : S64x128.Idx → EReal) (l r : Fin 128) :
    concatenate S128x128 0 [⟨S32x128, A⟩, ⟨S32x128, B⟩, ⟨S64x128, C⟩] concatenates_S32x128_S32x128_S64x128_S128x128_d0 (ix2 l r)
    = if h : l.val < 32 then A (ix2 ⟨l.val, h⟩ r) else if h' : l.val < 64 then B (ix2 ⟨l.val - 32, by omega⟩ r)
      else C (ix2 ⟨l.val - 64, by omega⟩ r) := by
  split
  · next h =>
    exact concatenate_apply_piece (t := S128x128) 0 ([⟨S32x128, A⟩, ⟨S32x128, B⟩, ⟨S64x128, C⟩] : List ((s : Shape) × (s.Idx → EReal))) concatenates_S32x128_S32x128_S64x128_S128x128_d0
      (ix2 l r) 0 (by decide : 0 < 3) S32x128 A rfl rfl 0 rfl (ix2 ⟨l.val, h⟩ r) (fun b hb => by
      match b with
      | ⟨0, _⟩ => exact absurd rfl hb
      | ⟨1, _⟩ => rfl) (by show 0 + l.val = l.val; omega)
  split
  · next h h' =>
    exact concatenate_apply_piece (t := S128x128) 0 ([⟨S32x128, A⟩, ⟨S32x128, B⟩, ⟨S64x128, C⟩] : List ((s : Shape) × (s.Idx → EReal))) concatenates_S32x128_S32x128_S64x128_S128x128_d0
      (ix2 l r) 1 (by decide : 1 < 3) S32x128 B rfl rfl 32 rfl (ix2 ⟨l.val - 32, by omega⟩ r) (fun b hb => by
      match b with
      | ⟨0, _⟩ => exact absurd rfl hb
      | ⟨1, _⟩ => rfl) (by show 32 + (l.val - 32) = l.val; omega)
  · next h h' =>
    exact concatenate_apply_piece (t := S128x128) 0 ([⟨S32x128, A⟩, ⟨S32x128, B⟩, ⟨S64x128, C⟩] : List ((s : Shape) × (s.Idx → EReal))) concatenates_S32x128_S32x128_S64x128_S128x128_d0
      (ix2 l r) 2 (by decide : 2 < 3) S64x128 C rfl rfl 64 rfl (ix2 ⟨l.val - 64, by omega⟩ r) (fun b hb => by
      match b with
      | ⟨0, _⟩ => exact absurd rfl hb
      | ⟨1, _⟩ => rfl) (by show 64 + (l.val - 64) = l.val; omega)

/-- The cosines of a row: those of the angles twice, then ones. -/
theorem cos_apply (r l : Fin 128) : (k0_pay7 (View.ld x3 r0_0) (ix2 r l) : EReal)
    = if h : l.val < 32 then Ideal.cos (angR (pos x3 r) ⟨l.val, h⟩)
      else if h' : l.val < 64 then Ideal.cos (angR (pos x3 r) ⟨l.val - 32, by omega⟩) else ((1 : ℝ) : EReal) := by
  unfold k0_pay7
  refine (transpose_apply _ _ _ _ (ix2 l r : S128x128.Idx) (fun b => by
    match b with
    | ⟨0, _⟩ => rfl
    | ⟨1, _⟩ => rfl)).trans ?_
  refine (stack_apply _ _ _ l r).trans ?_
  split
  · show Ideal.cos (k0_pay5 (View.ld x3 r0_0) (ix2 _ r)) = _
    rw [pay5_apply, angK_eq, angR_eq]
  split
  · show Ideal.cos (k0_pay5 (View.ld x3 r0_0) (ix2 _ r)) = _
    rw [pay5_apply, angK_eq, angR_eq]
  · exact one_f32

/-- The sines of a row: those of the angles, their negatives, then zeros. -/
theorem sin_apply (r l : Fin 128) : (k0_pay8 (View.ld x3 r0_0) (ix2 r l) : EReal)
    = if h : l.val < 32 then Ideal.sin (angR (pos x3 r) ⟨l.val, h⟩)
      else if h' : l.val < 64 then 0 - Ideal.sin (angR (pos x3 r) ⟨l.val - 32, by omega⟩) else 0 := by
  unfold k0_pay8
  refine (transpose_apply _ _ _ _ (ix2 l r : S128x128.Idx) (fun b => by
    match b with
    | ⟨0, _⟩ => rfl
    | ⟨1, _⟩ => rfl)).trans ?_
  refine (stack_apply _ _ _ l r).trans ?_
  split
  · show Ideal.sin (k0_pay5 (View.ld x3 r0_0) (ix2 _ r)) = _
    rw [pay5_apply, angK_eq, angR_eq]
  split
  · show @HSub.hSub EReal EReal EReal _ (Ideal.ofBits .f32 0x00000000#32) (Ideal.sin (k0_pay5 (View.ld x3 r0_0) (ix2 _ r))) = _
    rw [pay5_apply, angK_eq, angR_eq, Ideal.ofBits_zero_f32]
  · show @HMul.hMul EReal EReal EReal _ (Ideal.ofBits .f32 0x3F800000#32) (Ideal.ofBits .f32 0x00000000#32) = 0
    rw [Ideal.ofBits_zero_f32, mul_zero]

theorem slt_small : ∀ l : Fin 128, IntOp.cmpi .slt (BitVec.ofNat 32 (0 * 128 + l.val)) 32#32 = BitVec.ofBool (decide (l.val < 32))
    ∧ IntOp.cmpi .slt (BitVec.ofNat 32 (0 * 128 + l.val)) 64#32 = BitVec.ofBool (decide (l.val < 64)) := by decide +kernel

/-- A row of a turned head is the row of the head turned back. -/
theorem turn_apply (x : FVec Ideal S128x128 .bf16) (r l : Fin 128) :
    (turn (k0_pay7 (View.ld x3 r0_0)) (k0_pay8 (View.ld x3 r0_0)) x (ix2 r l) : EReal)
      = QuantRow.rot (pos x3 r) (fun l => x (ix2 r l)) l := by
  have up : (dynamicRotate 1 96#32 none x rotates_S128x128_d1 (ix2 r l) : EReal) = x (ix2 r ⟨(l.val + 32) % 128, by omega⟩) :=
    dynamicRotate_apply _ _ _ _ _ _ (fun b => by
      match b with
      | ⟨0, _⟩ => rfl
      | ⟨1, _⟩ => show (l.val + 32) % 128 = (l.val + 128 - 96 % 128) % 128; omega)
  have dn : (dynamicRotate 1 32#32 none x rotates_S128x128_d1 (ix2 r l) : EReal) = x (ix2 r ⟨(l.val + 96) % 128, by omega⟩) :=
    dynamicRotate_apply _ _ _ _ _ _ (fun b => by
      match b with
      | ⟨0, _⟩ => rfl
      | ⟨1, _⟩ => show (l.val + 96) % 128 = (l.val + 128 - 32 % 128) % 128; omega)
  unfold turn
  show @HAdd.hAdd EReal EReal EReal _ (@HMul.hMul EReal EReal EReal _ (x (ix2 r l)) (k0_pay7 (View.ld x3 r0_0) (ix2 r l)))
    (@HMul.hMul EReal EReal EReal _ (Scalar.select (IntOp.cmpi .slt (BitVec.ofNat 32 (0 * 128 + l.val)) 32#32)
      (dynamicRotate 1 96#32 none x rotates_S128x128_d1 (ix2 r l))
      (Scalar.select (IntOp.cmpi .slt (BitVec.ofNat 32 (0 * 128 + l.val)) 64#32) (dynamicRotate 1 32#32 none x rotates_S128x128_d1 (ix2 r l)) (x (ix2 r l))))
      (k0_pay8 (View.ld x3 r0_0) (ix2 r l))) = _
  rw [up, dn, cos_apply, sin_apply, (slt_small l).1, (slt_small l).2]
  unfold QuantRow.rot Scalar.select
  by_cases h : l.val < 32
  · rw [dif_pos h, dif_pos h, dif_pos h, decide_eq_true h, if_pos (by decide)]
    have : (⟨(l.val + 32) % 128, by omega⟩ : Fin 128) = ⟨l.val + 32, by omega⟩ := Fin.ext (by show (l.val + 32) % 128 = l.val + 32; omega)
    rw [this]
  rw [dif_neg h, dif_neg h, dif_neg h, decide_eq_false h, if_neg (by decide)]
  by_cases h' : l.val < 64
  · rw [dif_pos h', dif_pos h', dif_pos h', decide_eq_true h', if_pos (by decide)]
    have : (⟨(l.val + 96) % 128, by omega⟩ : Fin 128) = ⟨l.val - 32, by omega⟩ := Fin.ext (by show (l.val + 96) % 128 = l.val - 32; omega)
    rw [this, zero_sub, mul_neg, ← sub_eq_add_neg]
  · rw [dif_neg h', dif_neg h', dif_neg h', decide_eq_false h', if_neg (by decide), mul_zero, add_zero, EReal.coe_one, mul_one]

/-- What row `r` of head `h` quantises: a row of the queries or the keys turned back, or a row of the values. -/
def source (x0 : Vec Ideal S128x32x128 .bf16) (x1 x2 : Vec Ideal S128x8x128 .bf16) (h : Fin 48) (r l : Fin 128) : EReal :=
  if h1 : h.val < 32 then QuantRow.rot (pos x3 r) (fun l => x0 (ix3 r ⟨h.val, h1⟩ l)) l
  else if h2 : h.val < 40 then QuantRow.rot (pos x3 r) (fun l => x1 (ix3 r ⟨h.val - 32, by omega⟩ l)) l
  else x2 (ix3 r ⟨h.val - 40, by omega⟩ l)

theorem head_row (x0 : Vec Ideal S128x32x128 .bf16) (x1 x2 : Vec Ideal S128x8x128 .bf16) (h : Fin 48) (r : Fin 128) :
    row (head x0 x1 x2 x3 h) r = source x3 x0 x1 x2 h r := by
  funext l
  unfold row head source
  split
  · next h1 =>
    refine (turn_apply x3 _ r l).trans (congrArg (fun f => QuantRow.rot (pos x3 r) f l) (funext fun k => ?_))
    rw [half_apply, pairQ_apply]
    congr 2
    exact Fin.ext (by show 2 * (h.val / 2) + h.val % 2 = h.val; omega)
  split
  · next h1 h2 =>
    refine (turn_apply x3 _ r l).trans (congrArg (fun f => QuantRow.rot (pos x3 r) f l) (funext fun k => ?_))
    rw [half_apply, pairK_apply]
    congr 2
    exact Fin.ext (by show 2 * ((h.val - 32) / 2) + h.val % 2 = h.val - 32; omega)
  · next h1 h2 =>
    refine Eq.trans (show _ = (half ⟨h.val % 2, by omega⟩ (pairK x2 ⟨(h.val - 40) / 2, by omega⟩) (ix2 r l) : EReal) from rfl) ?_
    rw [half_apply]
    rw [pairK_apply]
    congr 2
    exact Fin.ext (by show 2 * ((h.val - 40) / 2) + h.val % 2 = h.val - 40; omega)

end Cert.QuantTurn

end
-- ==== Proof.QuantStores.lean ====
/- The stores of one tile read at an index: a column belongs to the head of its block of 128, a scale to its head's column. -/
module

public import proofs.«01_k».proof.Proof.QuantTurn

@[expose] public section

set_option maxRecDepth 16384

noncomputable section

open Idealize.ShloMosaic Idealize.ShloMosaic.TcCoe Idealize.SL.Sem
open Idealize.ShloMosaic.ValueIdx (ix1 ix2 ix3 eq_ix2)

namespace Cert.QuantStores

open Cert.QuantIdeal Cert.QuantIdeal.Gen Cert.QuantHead Cert.QuantTile Cert.QuantTurn

/-- The heads' values side by side. -/
def beside {e : EltTy} (P : Fin 48 → S128x128.Idx → Elt Ideal e) (y : S128x6144.Idx) : Elt Ideal e :=
  P ⟨(y 1).val / 128, by have : (y 1).val < 6144 := (y 1).isLt; omega⟩ (ix2 (y 0) ⟨(y 1).val % 128, by omega⟩)

theorem stores_agree {e : EltTy} (P : Fin 48 → S128x128.Idx → Elt Ideal e) : ∀ (n : ℕ) (hn : n ≤ 48),
    ∀ p ∈ stores (F := Ideal) P n hn, ∀ x : p.1.shape.Idx, p.2 x = beside P (p.1.emb x)
  | 0, _, p, hp, _ => absurd hp List.not_mem_nil
  | n + 1, hn, p, hp, x => by
    rcases List.mem_cons.1 hp with rfl | hp'
    · have h1 : (x 1).val < 128 := (x 1).isLt
      have e1 : (((cols ⟨n, hn⟩).emb x) 1).val = 128 * n + (x 1).val := Rect.idx_unit_val _ _ _ x 1
      have e0 : (((cols ⟨n, hn⟩).emb x) 0).val = 0 + (x 0).val := Rect.idx_unit_val _ _ _ x 0
      unfold beside
      show P ⟨n, hn⟩ x = _
      have a : (⟨n, hn⟩ : Fin 48) = ⟨(((cols ⟨n, hn⟩).emb x) 1).val / 128, by rw [e1]; omega⟩ := Fin.ext (by show n = _ / 128; rw [e1]; omega)
      have b : x = (ix2 (((cols ⟨n, hn⟩).emb x) 0) ⟨(((cols ⟨n, hn⟩).emb x) 1).val % 128, by omega⟩ : S128x128.Idx) := by
        funext d
        apply Fin.ext
        match d with
        | ⟨0, _⟩ => show (x 0).val = (((cols ⟨n, hn⟩).emb x) 0).val; omega
        | ⟨1, _⟩ => show (x 1).val = (((cols ⟨n, hn⟩).emb x) 1).val % 128; omega
      exact (congrArg (P ⟨n, hn⟩) b).trans (congrArg (fun q => P q _) a)
    · exact stores_agree P n _ p hp' x

theorem stores_mem {e : EltTy} (P : Fin 48 → S128x128.Idx → Elt Ideal e) : ∀ (n : ℕ) (hn : n ≤ 48) (h : Fin 48), h.val < n →
    (⟨cols h, P h⟩ : View.Piece (Elt Ideal) S128x6144 e) ∈ stores (F := Ideal) P n hn
  | 0, _, h, hh => absurd hh (Nat.not_lt_zero _)
  | n + 1, hn, h, hh => by
    by_cases e : h.val = n
    · have : h = ⟨n, hn⟩ := Fin.ext e
      subst this
      exact List.mem_cons_self
    · exact List.mem_cons_of_mem _ (stores_mem P n _ h (by omega))

theorem stores_apply {e : EltTy} (P : Fin 48 → S128x128.Idx → Elt Ideal e) (y : S128x6144.Idx) :
    View.canon (stores (F := Ideal) P 48 le_rfl) y = beside P y := by
  have h1 : (y 1).val < 6144 := (y 1).isLt
  have h0 : (y 0).val < 128 := (y 0).isLt
  refine View.canon_apply_of_pieces (beside P) _ (stores_agree P 48 le_rfl) y
    ⟨_, stores_mem P 48 le_rfl ⟨(y 1).val / 128, by omega⟩ (by show _ / 128 < 48; omega), ?_⟩
  rw [Rect.mem_set_unit]
  intro a
  match a with
  | ⟨0, _⟩ => show 0 ≤ (y 0).val ∧ (y 0).val < 0 + 128; omega
  | ⟨1, _⟩ => show 128 * ((y 1).val / 128) ≤ (y 1).val ∧ (y 1).val < 128 * ((y 1).val / 128) + 128; omega

theorem eq_small : ∀ c n : Fin 48, IntOp.cmpi .eq (BitVec.ofNat 32 (0 * 48 + c.val)) (BitVec.ofNat 32 n.val) = BitVec.ofBool (decide (c = n)) := by
  decide +kernel

theorem scales_apply (P : Fin 48 → FVec Ideal S128x1 .f32) (r : Fin 128) (c : Fin 48) : ∀ (n : ℕ) (hn : n ≤ 48), c.val < n →
    (scales P n hn (ix2 r c) : EReal) = P c (ix2 r 0)
  | 0, _, hc => absurd hc (Nat.not_lt_zero _)
  | n + 1, hn, hc => by
    show Scalar.select (IntOp.cmpi .eq (BitVec.ofNat 32 (0 * 48 + c.val)) (BitVec.ofNat 32 n))
      (broadcastTo S128x48 (shapeCast S128x1 (P ⟨n, hn⟩) shapeCasts_S128x1_S128x1) broadcasts_S128x1_S128x48 (ix2 r c))
      (scales P n (Nat.le_of_succ_le hn) (ix2 r c)) = _
    rw [eq_small c ⟨n, hn⟩, shapeCast_self]
    unfold Scalar.select
    by_cases e : c = ⟨n, hn⟩
    · rw [decide_eq_true e, if_pos (by decide), e]
      exact broadcastTo_apply _ _ _ (ix2 r 0) (fun a => by
        match a with
        | ⟨0, _⟩ => rfl
        | ⟨1, _⟩ => rfl)
    · rw [decide_eq_false e, if_neg (by decide)]
      have : c.val ≠ n := fun h => e (Fin.ext h)
      exact scales_apply P r c n _ (by omega)

variable (x0 : Vec Ideal S128x32x128 .bf16) (x1 x2 : Vec Ideal S128x8x128 .bf16) (x3 : Vec Ideal S1x1x128 .i32)
variable (H : ∀ h r, QuantRow.Within (2 ^ 129) (source x3 x0 x1 x2 h r))
include H

/-- The three blocks a tile leaves. -/
theorem codes_at (r : Fin 128) (k : Fin 6144) (h : Fin 48) (l : Fin 128) (hk : k.val = 128 * h.val + l.val) :
    (out0_4 x0 x1 x2 x3 (ix2 r k) : EReal) = QuantRow.code (source x3 x0 x1 x2 h r) l := by
  have a : (⟨k.val / 128, by omega⟩ : Fin 48) = h := Fin.ext (by show k.val / 128 = _; omega)
  have b : (⟨k.val % 128, by omega⟩ : Fin 128) = l := Fin.ext (by show k.val % 128 = _; omega)
  rw [out4_eq, stores_apply]
  show (codes (head x0 x1 x2 x3 ⟨k.val / 128, by omega⟩) (ix2 r ⟨k.val % 128, by omega⟩) : EReal) = _
  rw [a, b, ← head_row]
  exact codes_apply _ r (by rw [head_row]; exact H h r) l

theorem coded_at (r : Fin 128) (k : Fin 6144) (h : Fin 48) (l : Fin 128) (hk : k.val = 128 * h.val + l.val) :
    (out0_6 x0 x1 x2 x3 (ix2 r k) : EReal) = QuantRow.coded (source x3 x0 x1 x2 h r) l := by
  have a : (⟨k.val / 128, by omega⟩ : Fin 48) = h := Fin.ext (by show k.val / 128 = _; omega)
  have b : (⟨k.val % 128, by omega⟩ : Fin 128) = l := Fin.ext (by show k.val % 128 = _; omega)
  rw [out6_eq, stores_apply]
  show (coded (head x0 x1 x2 x3 ⟨k.val / 128, by omega⟩) (ix2 r ⟨k.val % 128, by omega⟩) : EReal) = _
  rw [a, b, ← head_row]
  exact coded_apply _ r (by rw [head_row]; exact H h r) l

theorem scale_at (r : Fin 128) (h : Fin 48) : (out0_5 x0 x1 x2 x3 (ix2 r h) : EReal) = QuantRow.scale (source x3 x0 x1 x2 h r) := by
  rw [out5_eq, View.canon_unit_zero (funext fun a => by fin_cases a <;> rfl), scales_apply _ r h 48 le_rfl h.isLt, ← head_row]
  exact scale_apply _ _ (by rw [head_row]; exact H h r)

end Cert.QuantStores

end
-- ==== Proof.QuantSpec.lean ====
/- The rows to quantise, from the four arguments, and the three arrays they give. -/
module

public import proofs.«01_k».proof.Proof.QuantRow
public import Idealize.ShloMosaic.Lib.ValueIdx

@[expose] public section

noncomputable section

open Idealize.ShloMosaic
open Idealize.ShloMosaic.ValueIdx (ix1 ix2 ix3 ix4 eq_ix2)

namespace Cert.QuantSpec

abbrev SQ : Shape := ⟨4, ![4, 256, 32, 128]⟩
abbrev SK : Shape := ⟨4, ![4, 256, 8, 128]⟩
abbrev SP : Shape := ⟨2, ![4, 256]⟩
abbrev SC : Shape := ⟨2, ![1024, 6144]⟩
abbrev SS : Shape := ⟨2, ![1024, 48]⟩

variable (q : SQ.Idx → EReal) (k v : SK.Idx → EReal) (p : SP.Idx → BitVec 32)

/-- The row of head `h` at place `s` of sequence `b`: queries and keys turned back by the position's angles, values as they are. -/
def entry (b : Fin 4) (s : Fin 256) (h : Fin 48) (l : Fin 128) : EReal :=
  if h1 : h.val < 32 then QuantRow.rot (p (ix2 b s)) (fun l => q (ix4 b s ⟨h.val, h1⟩ l)) l
  else if h2 : h.val < 40 then QuantRow.rot (p (ix2 b s)) (fun l => k (ix4 b s ⟨h.val - 32, by omega⟩ l)) l
  else v (ix4 b s ⟨h.val - 40, by omega⟩ l)

/-- The same by token: 256 places to a sequence. -/
def entries (t : Fin 1024) (h : Fin 48) : Fin 128 → EReal :=
  entry q k v p ⟨t.val / 256, by omega⟩ ⟨t.val % 256, by omega⟩ h

def codes : SC.Idx → EReal := fun i =>
  QuantRow.code (entries q k v p (i 0) ⟨(i 1).val / 128, by have : (i 1).val < 6144 := (i 1).isLt; omega⟩) ⟨(i 1).val % 128, by omega⟩

def scales : SS.Idx → EReal := fun i => QuantRow.scale (entries q k v p (i 0) (i 1))

def coded : SC.Idx → EReal := fun i =>
  QuantRow.coded (entries q k v p (i 0) ⟨(i 1).val / 128, by have : (i 1).val < 6144 := (i 1).isLt; omega⟩) ⟨(i 1).val % 128, by omega⟩

/-- Where every argument is finite, so bounded by `2 ^ 128`, every row is bounded by twice that. -/
theorem entries_within (hq : ∀ j, max (q j) (-(q j)) ≤ Ideal.ofBits .f32 0x7F7F0000#32)
    (hk : ∀ j, max (k j) (-(k j)) ≤ Ideal.ofBits .f32 0x7F7F0000#32) (hv : ∀ j, max (v j) (-(v j)) ≤ Ideal.ofBits .f32 0x7F7F0000#32)
    (t : Fin 1024) (h : Fin 48) : QuantRow.Within (2 ^ 129) (entries q k v p t h) := by
  have two : (2 : ℝ) ^ 129 = 2 * 2 ^ 128 := by norm_num
  have turned : ∀ (P : BitVec 32) (x : Fin 128 → EReal), (∀ l, max (x l) (-(x l)) ≤ Ideal.ofBits .f32 0x7F7F0000#32) →
      QuantRow.Within (2 ^ 129) (QuantRow.rot P x) := fun P x hx => by
    rw [two]
    exact QuantRow.rot_within _ P x fun l => QuantRow.real_of_abs _ (hx l)
  unfold entries
  intro l
  unfold entry
  split
  · next h1 => exact turned _ (fun l => q (ix4 _ _ ⟨h.val, h1⟩ l)) (fun l => hq _) l
  split
  · next h1 h2 => exact turned _ (fun l => k (ix4 _ _ ⟨h.val - 32, by omega⟩ l)) (fun l => hk _) l
  · next h1 h2 =>
    obtain ⟨r, e, hr⟩ := QuantRow.real_of_abs _ (hv (ix4 ⟨t.val / 256, by omega⟩ ⟨t.val % 256, by omega⟩ ⟨h.val - 40, by omega⟩ l))
    exact ⟨r, e, hr.trans (by rw [two]; linarith [show (0 : ℝ) < 2 ^ 128 by positivity])⟩

end Cert.QuantSpec

end
-- ==== Proof.QuantValue.lean ====
/- The three arrays the kernel leaves, as functions of its four arguments. -/
module

public import proofs.«01_k».proof.Proof.QuantStores
public import proofs.«01_k».proof.Proof.QuantSpec
public import proofs.«01_k».proof.Proof.Gen.QuantIdeal.Value
public import Idealize.ShloMosaic.Lib.StableHlo.Run

@[expose] public section

set_option maxRecDepth 16384

noncomputable section

open Idealize.ShloMosaic Idealize.ShloMosaic.TcCoe Idealize.SL.Sem
open Idealize.ShloMosaic.ValueIdx (ix1 ix2 ix3 ix4 eq_ix2)

namespace Cert.QuantIdeal.Whole

open Cert.QuantIdeal Cert.QuantIdeal.Gen Cert.QuantIdeal.Value

variable (m : (ℓ : Loc nD τ sig) → Buf (Elt Ideal) ℓ)

/-- The four arguments as launched: queries', keys' and values' gradients, and the positions. -/
abbrev qA (c : Dev nD) : S4x256x32x128.Idx → EReal := m ((c : Thread nD τ).loc main_arg0)
abbrev kA (c : Dev nD) : S4x256x8x128.Idx → EReal := m ((c : Thread nD τ).loc main_arg1)
abbrev vA (c : Dev nD) : S4x256x8x128.Idx → EReal := m ((c : Thread nD τ).loc main_arg2)
abbrev pA (c : Dev nD) : S4x256.Idx → BitVec 32 := m ((c : Thread nD τ).loc main_arg3)

theorem N8 : cfg0.N = 8 := N_0

theorem index_eq : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0)
    ∧ (win0_5.index t 0 = t.val ∧ win0_5.index t 1 = 0)
    ∧ (win0_6.index t 0 = t.val ∧ win0_6.index t 1 = 0) :=
  (by decide +kernel : ∀ t : Fin grid0.N, _)

/-- Token `r` of tile `t`. -/
def token (t : Fin cfg0.N) (r : Fin 128) : Fin 1024 := ⟨128 * t.val + r.val, by have := lt_of_lt_of_eq t.isLt N8; omega⟩

theorem V_q (c : Dev nD) (n : Fin 1024) (h : Fin 32) (l : Fin 128) :
    (V m c main_v0 : S1024x32x128.Idx → EReal) (ix3 n h l) = qA m c (ix4 ⟨n.val / 256, by omega⟩ ⟨n.val % 256, by omega⟩ h l) := by
  have e : (V m c main_v0 : S1024x32x128.Idx → EReal) = shapeCast S1024x32x128 (qA m c) shapeCasts_S4x256x32x128_S1024x32x128 := by
    show StableHlo.after hostOps0 _ _ = _
    after_results
    rfl
  rw [e]
  exact shapeCast_apply _ _ _ _ (by
    rw [Shape.rowMajor_val_three, Shape.rowMajor_val_four]
    show ((n.val / 256 * 256 + n.val % 256) * 32 + h.val) * 128 + l.val = (n.val * 32 + h.val) * 128 + l.val
    omega)

theorem V_k (c : Dev nD) (n : Fin 1024) (h : Fin 8) (l : Fin 128) :
    (V m c main_v1 : S1024x8x128.Idx → EReal) (ix3 n h l) = kA m c (ix4 ⟨n.val / 256, by omega⟩ ⟨n.val % 256, by omega⟩ h l) := by
  have e : (V m c main_v1 : S1024x8x128.Idx → EReal) = shapeCast S1024x8x128 (kA m c) shapeCasts_S4x256x8x128_S1024x8x128 := by
    show StableHlo.after hostOps0 _ _ = _
    after_results
    rfl
  rw [e]
  exact shapeCast_apply _ _ _ _ (by
    rw [Shape.rowMajor_val_three, Shape.rowMajor_val_four]
    show ((n.val / 256 * 256 + n.val % 256) * 8 + h.val) * 128 + l.val = (n.val * 8 + h.val) * 128 + l.val
    omega)

theorem V_v (c : Dev nD) (n : Fin 1024) (h : Fin 8) (l : Fin 128) :
    (V m c main_v2 : S1024x8x128.Idx → EReal) (ix3 n h l) = vA m c (ix4 ⟨n.val / 256, by omega⟩ ⟨n.val % 256, by omega⟩ h l) := by
  have e : (V m c main_v2 : S1024x8x128.Idx → EReal) = shapeCast S1024x8x128 (vA m c) shapeCasts_S4x256x8x128_S1024x8x128 := by
    show StableHlo.after hostOps0 _ _ = _
    after_results
    rfl
  rw [e]
  exact shapeCast_apply _ _ _ _ (by
    rw [Shape.rowMajor_val_three, Shape.rowMajor_val_four]
    show ((n.val / 256 * 256 + n.val % 256) * 8 + h.val) * 128 + l.val = (n.val * 8 + h.val) * 128 + l.val
    omega)

theorem V_p (c : Dev nD) (t : Fin 8) (r : Fin 128) :
    (V m c main_v3 : S8x1x128.Idx → BitVec 32) (ix3 t 0 r) = pA m c (ix2 ⟨(128 * t.val + r.val) / 256, by omega⟩ ⟨(128 * t.val + r.val) % 256, by omega⟩) := by
  have e : (V m c main_v3 : S8x1x128.Idx → BitVec 32) = shapeCast S8x1x128 (pA m c) shapeCasts_S4x256_S8x1x128 := by
    show StableHlo.after hostOps0 _ _ = _
    after_results
    rfl
  rw [e]
  exact shapeCast_apply _ _ _ _ (by
    rw [Shape.rowMajor_val_three, Shape.rowMajor_val_two]
    show (128 * t.val + r.val) / 256 * 256 + (128 * t.val + r.val) % 256 = (t.val * 1 + 0) * 128 + r.val
    omega)

theorem blk_q (c : Dev nD) (t : Fin cfg0.N) (r : Fin 128) (h : Fin 32) (l : Fin 128) :
    (iblk m c 0 t : S128x32x128.Idx → EReal) (ix3 r h l) = (V m c main_v0 : S1024x32x128.Idx → EReal) (ix3 (token t r) h l) := by
  obtain ⟨⟨e0, e1, e2⟩, -⟩ := index_eq t
  unfold iblk
  rw [View.read_apply]
  show V m c main_v0 _ = V m c main_v0 _
  congr 1
  funext a
  apply Fin.ext
  match a with
  | ⟨0, _⟩ => show win0_0.index t 0 * 128 + 1 * r.val = 128 * t.val + r.val; omega
  | ⟨1, _⟩ => show win0_0.index t 1 * 32 + 1 * h.val = h.val; omega
  | ⟨2, _⟩ => show win0_0.index t 2 * 128 + 1 * l.val = l.val; omega

theorem blk_k (c : Dev nD) (t : Fin cfg0.N) (r : Fin 128) (h : Fin 8) (l : Fin 128) :
    (iblk m c 1 t : S128x8x128.Idx → EReal) (ix3 r h l) = (V m c main_v1 : S1024x8x128.Idx → EReal) (ix3 (token t r) h l) := by
  obtain ⟨-, ⟨e0, e1, e2⟩, -⟩ := index_eq t
  unfold iblk
  rw [View.read_apply]
  show V m c main_v1 _ = V m c main_v1 _
  congr 1
  funext a
  apply Fin.ext
  match a with
  | ⟨0, _⟩ => show win0_1.index t 0 * 128 + 1 * r.val = 128 * t.val + r.val; omega
  | ⟨1, _⟩ => show win0_1.index t 1 * 8 + 1 * h.val = h.val; omega
  | ⟨2, _⟩ => show win0_1.index t 2 * 128 + 1 * l.val = l.val; omega

theorem blk_v (c : Dev nD) (t : Fin cfg0.N) (r : Fin 128) (h : Fin 8) (l : Fin 128) :
    (iblk m c 2 t : S128x8x128.Idx → EReal) (ix3 r h l) = (V m c main_v2 : S1024x8x128.Idx → EReal) (ix3 (token t r) h l) := by
  obtain ⟨-, -, ⟨e0, e1, e2⟩, -⟩ := index_eq t
  unfold iblk
  rw [View.read_apply]
  show V m c main_v2 _ = V m c main_v2 _
  congr 1
  funext a
  apply Fin.ext
  match a with
  | ⟨0, _⟩ => show win0_2.index t 0 * 128 + 1 * r.val = 128 * t.val + r.val; omega
  | ⟨1, _⟩ => show win0_2.index t 1 * 8 + 1 * h.val = h.val; omega
  | ⟨2, _⟩ => show win0_2.index t 2 * 128 + 1 * l.val = l.val; omega

theorem blk_p (c : Dev nD) (t : Fin cfg0.N) (r : Fin 128) :
    (iblk m c 3 t : S1x1x128.Idx → BitVec 32) (ix3 0 0 r) = (V m c main_v3 : S8x1x128.Idx → BitVec 32) (ix3 ⟨t.val, lt_of_lt_of_eq t.isLt N8⟩ 0 r) := by
  obtain ⟨-, -, -, ⟨e0, e1, e2⟩, -⟩ := index_eq t
  unfold iblk
  rw [View.read_apply]
  show V m c main_v3 _ = V m c main_v3 _
  congr 1
  funext a
  apply Fin.ext
  match a with
  | ⟨0, _⟩ => show win0_3.index t 0 * 1 + 1 * 0 = t.val; omega
  | ⟨1, _⟩ => show win0_3.index t 1 * 1 + 1 * 0 = 0; omega
  | ⟨2, _⟩ => show win0_3.index t 2 * 128 + 1 * r.val = r.val; omega

/-- A tile's rows are its tokens' rows. -/
theorem source_eq (c : Dev nD) (t : Fin cfg0.N) (h : Fin 48) (r : Fin 128) :
    QuantTurn.source (iblk m c 3 t) (iblk m c 0 t) (iblk m c 1 t) (iblk m c 2 t) h r
      = QuantSpec.entries (qA m c) (kA m c) (vA m c) (pA m c) (token t r) h := by
  have ep : QuantTurn.pos (iblk m c 3 t) r = pA m c (ix2 ⟨(token t r).val / 256, by omega⟩ ⟨(token t r).val % 256, by omega⟩) :=
    (blk_p m c t r).trans (V_p m c _ r)
  funext l
  unfold QuantTurn.source QuantSpec.entries QuantSpec.entry
  rw [ep]
  split
  · next h1 =>
    exact congrArg (fun f => QuantRow.rot _ f l) (funext fun k => (blk_q m c t r _ k).trans (V_q m c _ _ k))
  split
  · next h1 h2 =>
    exact congrArg (fun f => QuantRow.rot _ f l) (funext fun k => (blk_k m c t r _ k).trans (V_k m c _ _ k))
  · next h1 h2 => exact (blk_v m c t r _ l).trans (V_v m c _ _ l)

variable (c : Dev nD) (H : ∀ n h, QuantRow.Within (2 ^ 129) (QuantSpec.entries (qA m c) (kA m c) (vA m c) (pA m c) n h))

theorem block_emb4 (t : Fin cfg0.N) (r : Fin 128) (x : Fin 6144) :
    (((cfg0.win 4).blk t).view.emb (ix2 r x) : S1024x6144.Idx) = ix2 (token t r) x := by
  obtain ⟨-, -, -, -, ⟨e0, e1⟩, -⟩ := index_eq t
  funext a
  apply Fin.ext
  match a with
  | ⟨0, _⟩ => show win0_4.index t 0 * 128 + 1 * r.val = 128 * t.val + r.val; omega
  | ⟨1, _⟩ => show win0_4.index t 1 * 6144 + 1 * x.val = x.val; omega

theorem block_emb5 (t : Fin cfg0.N) (r : Fin 128) (x : Fin 48) :
    (((cfg0.win 5).blk t).view.emb (ix2 r x) : S1024x48.Idx) = ix2 (token t r) x := by
  obtain ⟨-, -, -, -, -, ⟨e0, e1⟩, -⟩ := index_eq t
  funext a
  apply Fin.ext
  match a with
  | ⟨0, _⟩ => show win0_5.index t 0 * 128 + 1 * r.val = 128 * t.val + r.val; omega
  | ⟨1, _⟩ => show win0_5.index t 1 * 48 + 1 * x.val = x.val; omega

theorem block_emb6 (t : Fin cfg0.N) (r : Fin 128) (x : Fin 6144) :
    (((cfg0.win 6).blk t).view.emb (ix2 r x) : S1024x6144.Idx) = ix2 (token t r) x := by
  obtain ⟨-, -, -, -, -, -, ⟨e0, e1⟩⟩ := index_eq t
  funext a
  apply Fin.ext
  match a with
  | ⟨0, _⟩ => show win0_6.index t 0 * 128 + 1 * r.val = 128 * t.val + r.val; omega
  | ⟨1, _⟩ => show win0_6.index t 1 * 6144 + 1 * x.val = x.val; omega

include H

theorem rows_within (t : Fin cfg0.N) (h : Fin 48) (r : Fin 128) :
    QuantRow.Within (2 ^ 129) (QuantTurn.source (iblk m c 3 t) (iblk m c 0 t) (iblk m c 1 t) (iblk m c 2 t) h r) := by
  rw [source_eq]
  exact H _ _

theorem flushed4_eq (t : Fin cfg0.N) (hf : (cfg0.win 4).flush t = true) :
    (dats m 0 c).flushed 4 t = ((cfg0.win 4).blk t).view.read (Elt Ideal) (QuantSpec.codes (qA m c) (kA m c) (vA m c) (pA m c)) := by
  rw [flushed4]
  funext j
  obtain ⟨r, x, rfl⟩ : ∃ (r : Fin 128) (x : Fin 6144), j = (ix2 r x : S128x6144.Idx) := ⟨j 0, j 1, eq_ix2 j⟩
  rw [View.read_apply]
  show (out0_4 (iblk m c 0 t) (iblk m c 1 t) (iblk m c 2 t) (iblk m c 3 t) (ix2 r x) : EReal)
    = QuantSpec.codes (qA m c) (kA m c) (vA m c) (pA m c) (((cfg0.win 4).blk t).view.emb (ix2 r x))
  rw [block_emb4, QuantStores.codes_at _ _ _ _ (rows_within m c H t) r x ⟨x.val / 128, by omega⟩ ⟨x.val % 128, by omega⟩ (by show x.val = 128 * (x.val / 128) + x.val % 128; omega), source_eq]
  rfl

theorem flushed5_eq (t : Fin cfg0.N) (hf : (cfg0.win 5).flush t = true) :
    (dats m 0 c).flushed 5 t = ((cfg0.win 5).blk t).view.read (Elt Ideal) (QuantSpec.scales (qA m c) (kA m c) (vA m c) (pA m c)) := by
  rw [flushed5]
  funext j
  obtain ⟨r, x, rfl⟩ : ∃ (r : Fin 128) (x : Fin 48), j = (ix2 r x : S128x48.Idx) := ⟨j 0, j 1, eq_ix2 j⟩
  rw [View.read_apply]
  show (out0_5 (iblk m c 0 t) (iblk m c 1 t) (iblk m c 2 t) (iblk m c 3 t) (ix2 r x) : EReal)
    = QuantSpec.scales (qA m c) (kA m c) (vA m c) (pA m c) (((cfg0.win 5).blk t).view.emb (ix2 r x))
  rw [block_emb5, QuantStores.scale_at _ _ _ _ (rows_within m c H t) r x, source_eq]
  rfl

theorem flushed6_eq (t : Fin cfg0.N) (hf : (cfg0.win 6).flush t = true) :
    (dats m 0 c).flushed 6 t = ((cfg0.win 6).blk t).view.read (Elt Ideal) (QuantSpec.coded (qA m c) (kA m c) (vA m c) (pA m c)) := by
  rw [flushed6]
  funext j
  obtain ⟨r, x, rfl⟩ : ∃ (r : Fin 128) (x : Fin 6144), j = (ix2 r x : S128x6144.Idx) := ⟨j 0, j 1, eq_ix2 j⟩
  rw [View.read_apply]
  show (out0_6 (iblk m c 0 t) (iblk m c 1 t) (iblk m c 2 t) (iblk m c 3 t) (ix2 r x) : EReal)
    = QuantSpec.coded (qA m c) (kA m c) (vA m c) (pA m c) (((cfg0.win 6).blk t).view.emb (ix2 r x))
  rw [block_emb6, QuantStores.coded_at _ _ _ _ (rows_within m c H t) r x ⟨x.val / 128, by omega⟩ ⟨x.val % 128, by omega⟩ (by show x.val = 128 * (x.val / 128) + x.val % 128; omega), source_eq]
  rfl

theorem final4 : (dats m 0 c).arrAt 4 cfg0.N = QuantSpec.codes (qA m c) (kA m c) (vA m c) (pA m c) :=
  (dats m 0 c).arrAt_eq_of_cover 4 _ (flushed4_eq m c H) fun i => by
    have h0 : (i 0 : Nat) < 1024 := (i 0).isLt
    have h1 : (i 1 : Nat) < 6144 := (i 1).isLt
    let t : Fin cfg0.N := ⟨(i 0 : Nat) / 128, by rw [N8]; omega⟩
    refine ⟨t, (by decide +kernel : ∀ t : Fin grid0.N, win0_4.flush t = true) t, ?_⟩
    show i ∈ ((View.whole main_v4_0).slice (win0_4.rect t)).set
    rw [View.set_slice_whole, Rect.mem_set_unit]
    obtain ⟨-, -, -, -, ⟨e0, e1⟩, -⟩ := index_eq t
    have ht : t.val = (i 0 : Nat) / 128 := rfl
    intro a
    match a with
    | ⟨0, _⟩ => show win0_4.index t 0 * 128 ≤ (i 0 : Nat) ∧ (i 0 : Nat) < win0_4.index t 0 * 128 + 128; omega
    | ⟨1, _⟩ => show win0_4.index t 1 * 6144 ≤ (i 1 : Nat) ∧ (i 1 : Nat) < win0_4.index t 1 * 6144 + 6144; omega

theorem final5 : (dats m 0 c).arrAt 5 cfg0.N = QuantSpec.scales (qA m c) (kA m c) (vA m c) (pA m c) :=
  (dats m 0 c).arrAt_eq_of_cover 5 _ (flushed5_eq m c H) fun i => by
    have h0 : (i 0 : Nat) < 1024 := (i 0).isLt
    have h1 : (i 1 : Nat) < 48 := (i 1).isLt
    let t : Fin cfg0.N := ⟨(i 0 : Nat) / 128, by rw [N8]; omega⟩
    refine ⟨t, (by decide +kernel : ∀ t : Fin grid0.N, win0_5.flush t = true) t, ?_⟩
    show i ∈ ((View.whole main_v4_1).slice (win0_5.rect t)).set
    rw [View.set_slice_whole, Rect.mem_set_unit]
    obtain ⟨-, -, -, -, -, ⟨e0, e1⟩, -⟩ := index_eq t
    have ht : t.val = (i 0 : Nat) / 128 := rfl
    intro a
    match a with
    | ⟨0, _⟩ => show win0_5.index t 0 * 128 ≤ (i 0 : Nat) ∧ (i 0 : Nat) < win0_5.index t 0 * 128 + 128; omega
    | ⟨1, _⟩ => show win0_5.index t 1 * 48 ≤ (i 1 : Nat) ∧ (i 1 : Nat) < win0_5.index t 1 * 48 + 48; omega

theorem final6 : (dats m 0 c).arrAt 6 cfg0.N = QuantSpec.coded (qA m c) (kA m c) (vA m c) (pA m c) :=
  (dats m 0 c).arrAt_eq_of_cover 6 _ (flushed6_eq m c H) fun i => by
    have h0 : (i 0 : Nat) < 1024 := (i 0).isLt
    have h1 : (i 1 : Nat) < 6144 := (i 1).isLt
    let t : Fin cfg0.N := ⟨(i 0 : Nat) / 128, by rw [N8]; omega⟩
    refine ⟨t, (by decide +kernel : ∀ t : Fin grid0.N, win0_6.flush t = true) t, ?_⟩
    show i ∈ ((View.whole main_v4_2).slice (win0_6.rect t)).set
    rw [View.set_slice_whole, Rect.mem_set_unit]
    obtain ⟨-, -, -, -, -, -, ⟨e0, e1⟩⟩ := index_eq t
    have ht : t.val = (i 0 : Nat) / 128 := rfl
    intro a
    match a with
    | ⟨0, _⟩ => show win0_6.index t 0 * 128 ≤ (i 0 : Nat) ∧ (i 0 : Nat) < win0_6.index t 0 * 128 + 128; omega
    | ⟨1, _⟩ => show win0_6.index t 1 * 6144 ≤ (i 1 : Nat) ∧ (i 1 : Nat) < win0_6.index t 1 * 6144 + 6144; omega

end Cert.QuantIdeal.Whole

end
-- ==== Proof.QuantRefOps.lean ====
/- The reference's host operations, stage by stage, and each stage read at an index. -/
module

public import proofs.«01_k».proof.Proof.QuantSpec
public import proofs.«01_k».proof.Proof.Gen.QuantRefIdeal.Value
public import Idealize.ShloMosaic.Lib.KernelVsHost

@[expose] public section

set_option maxRecDepth 16384

noncomputable section

open Idealize.ShloMosaic Idealize.ShloMosaic.TcCoe Idealize.SL.Sem
open Idealize.ShloMosaic.ValueIdx (ix1 ix2 ix3 ix4 eq_ix2 eq_ix3 eq_ix4)

namespace Cert.QuantRefOps

open Cert.QuantRefIdeal Cert.QuantRefIdeal.Gen

/-! ## The angles -/

def freqs : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (addf (broadcastInDim S32 ![] bcast_S_S32 (constant S_ .f32 0x00000000#32))
        (mulf (broadcastInDim S32 ![] bcast_S_S32 (constant S_ .f32 0x40000000#32)) (sitofp .f32 (iotaInDim S32 32 0))))
        (broadcastInDim S32 ![] bcast_S_S32 (constant S_ .f32 0x42800000#32))))

def angles (P : IVec S4x256 32) : FVec Ideal S4x256x32 .f32 :=
  mulf (broadcastInDim S4x256x32 ![0, 1, 2] bcast_S4x256x1_S4x256x32_0_1_2 (broadcastInDim S4x256x1 ![0, 1] bcast_S4x256_S4x256x1_0_1 (sitofp .f32 P)))
    (broadcastInDim S4x256x32 ![0, 1, 2] bcast_S1x1x32_S4x256x32_0_1_2 (broadcastInDim S1x1x32 ![2] bcast_S32_S1x1x32_2 freqs))

def cosines (P : IVec S4x256 32) : FVec Ideal S4x256x1x32 .f32 :=
  broadcastInDim S4x256x1x32 ![0, 1, 3] bcast_S4x256x32_S4x256x1x32_0_1_3 (Host.cos (angles P))

def sines (P : IVec S4x256 32) : FVec Ideal S4x256x1x32 .f32 :=
  broadcastInDim S4x256x1x32 ![0, 1, 3] bcast_S4x256x32_S4x256x1x32_0_1_3 (Host.sin (angles P))

theorem angles_apply (P : IVec S4x256 32) (b : Fin 4) (s : Fin 256) (i : Fin 32) :
    (angles P (ix3 b s i) : EReal) = QuantMath.angR (P (ix2 b s)) i := by
  have e1 : (broadcastInDim S4x256x32 ![0, 1, 2] bcast_S4x256x1_S4x256x32_0_1_2 (broadcastInDim S4x256x1 ![0, 1] bcast_S4x256_S4x256x1_0_1 (sitofp (F := Ideal) .f32 P)) (ix3 b s i) : EReal)
      = (((P (ix2 b s)).toInt : ℝ) : EReal) := by
    refine (broadcastInDim_apply _ _ _ _ (ix3 b s 0 : S4x256x1.Idx) (fun a => by
      match a with
      | ⟨0, _⟩ => rfl
      | ⟨1, _⟩ => rfl
      | ⟨2, _⟩ => rfl)).trans ?_
    exact broadcastInDim_apply _ _ _ _ (ix2 b s : S4x256.Idx) (fun a => by
      match a with
      | ⟨0, _⟩ => rfl
      | ⟨1, _⟩ => rfl)
  have e2 : (broadcastInDim S4x256x32 ![0, 1, 2] bcast_S1x1x32_S4x256x32_0_1_2 (broadcastInDim S1x1x32 ![2] bcast_S32_S1x1x32_2 freqs) (ix3 b s i) : EReal)
      = freqs (ix1 i) := by
    refine (broadcastInDim_apply _ _ _ _ (ix3 0 0 i : S1x1x32.Idx) (fun a => by
      match a with
      | ⟨0, _⟩ => rfl
      | ⟨1, _⟩ => rfl
      | ⟨2, _⟩ => rfl)).trans ?_
    exact broadcastInDim_apply _ _ _ _ (ix1 i : S32.Idx) (fun a => by
      match a with
      | ⟨0, _⟩ => rfl)
  unfold angles
  refine (congrArg₂ (fun a b : EReal => a * b) e1 e2).trans ?_
  rfl

theorem cosines_apply (P : IVec S4x256 32) (b : Fin 4) (s : Fin 256) (i : Fin 32) :
    (cosines P (ix4 b s 0 i) : EReal) = Ideal.cos (QuantMath.angR (P (ix2 b s)) i) := by
  rw [← angles_apply]
  exact broadcastInDim_apply _ _ _ _ (ix3 b s i : S4x256x32.Idx) (fun a => by
    match a with
    | ⟨0, _⟩ => rfl
    | ⟨1, _⟩ => rfl
    | ⟨2, _⟩ => rfl)

theorem sines_apply (P : IVec S4x256 32) (b : Fin 4) (s : Fin 256) (i : Fin 32) :
    (sines P (ix4 b s 0 i) : EReal) = Ideal.sin (QuantMath.angR (P (ix2 b s)) i) := by
  rw [← angles_apply]
  exact broadcastInDim_apply _ _ _ _ (ix3 b s i : S4x256x32.Idx) (fun a => by
    match a with
    | ⟨0, _⟩ => rfl
    | ⟨1, _⟩ => rfl
    | ⟨2, _⟩ => rfl)

/-! ## The turn back, of any number of heads -/

abbrev R (H n : ℕ) : Shape := ⟨4, ![4, 256, H, n]⟩

section Turn

variable {H : ℕ} (h0 : (R H 128).Slices ![0, 0, 0, 0] (R H 32)) (h32 : (R H 128).Slices ![0, 0, 0, 32] (R H 32))
  (h64 : (R H 128).Slices ![0, 0, 0, 64] (R H 64)) (hb : (R 1 32).BroadcastsInDim (R H 32) (![0, 1, 2, 3] : Fin 4 → Fin 4))
  (hc : Shape.Concatenates [R H 32, R H 32, R H 64] (R H 128) 3)

def turned (x : FVec Ideal (R H 128) .f32) (C S : FVec Ideal (R 1 32) .f32) : FVec Ideal (R H 128) .f32 :=
  concatenate (R H 128) 3
    [⟨R H 32, addf (mulf (extractStridedSlice (R H 32) ![0, 0, 0, 0] x h0) (broadcastInDim (R H 32) ![0, 1, 2, 3] hb C))
        (mulf (extractStridedSlice (R H 32) ![0, 0, 0, 32] x h32) (broadcastInDim (R H 32) ![0, 1, 2, 3] hb S))⟩,
     ⟨R H 32, subf (mulf (extractStridedSlice (R H 32) ![0, 0, 0, 32] x h32) (broadcastInDim (R H 32) ![0, 1, 2, 3] hb C))
        (mulf (extractStridedSlice (R H 32) ![0, 0, 0, 0] x h0) (broadcastInDim (R H 32) ![0, 1, 2, 3] hb S))⟩,
     ⟨R H 64, extractStridedSlice (R H 64) ![0, 0, 0, 64] x h64⟩] hc

/-- Three stacks side by side, read at a lane. -/
theorem beside_apply (A B : (R H 32).Idx → EReal) (D : (R H 64).Idx → EReal) (b : Fin 4) (s : Fin 256) (h : Fin H) (l : Fin 128) :
    concatenate (R H 128) 3 [⟨R H 32, A⟩, ⟨R H 32, B⟩, ⟨R H 64, D⟩] hc (ix4 b s h l)
    = if h : l.val < 32 then A (ix4 b s ‹_› ⟨l.val, h⟩) else if h' : l.val < 64 then B (ix4 b s ‹_› ⟨l.val - 32, by omega⟩)
      else D (ix4 b s ‹_› ⟨l.val - 64, by omega⟩) := by
  split
  · next h1 =>
    exact concatenate_apply_piece (t := R H 128) 3 ([⟨R H 32, A⟩, ⟨R H 32, B⟩, ⟨R H 64, D⟩] : List ((s : Shape) × (s.Idx → EReal))) hc
      (ix4 b s h l) 0 (by decide : 0 < 3) (R H 32) A rfl rfl 0 rfl (ix4 b s h ⟨l.val, h1⟩) (fun b hb => by
      match b with
      | ⟨0, _⟩ => rfl
      | ⟨1, _⟩ => rfl
      | ⟨2, _⟩ => rfl
      | ⟨3, _⟩ => exact absurd rfl hb) (by show 0 + l.val = l.val; omega)
  split
  · next h1 h2 =>
    exact concatenate_apply_piece (t := R H 128) 3 ([⟨R H 32, A⟩, ⟨R H 32, B⟩, ⟨R H 64, D⟩] : List ((s : Shape) × (s.Idx → EReal))) hc
      (ix4 b s h l) 1 (by decide : 1 < 3) (R H 32) B rfl rfl 32 rfl (ix4 b s h ⟨l.val - 32, by omega⟩) (fun b hb => by
      match b with
      | ⟨0, _⟩ => rfl
      | ⟨1, _⟩ => rfl
      | ⟨2, _⟩ => rfl
      | ⟨3, _⟩ => exact absurd rfl hb) (by show 32 + (l.val - 32) = l.val; omega)
  · next h1 h2 =>
    exact concatenate_apply_piece (t := R H 128) 3 ([⟨R H 32, A⟩, ⟨R H 32, B⟩, ⟨R H 64, D⟩] : List ((s : Shape) × (s.Idx → EReal))) hc
      (ix4 b s h l) 2 (by decide : 2 < 3) (R H 64) D rfl rfl 64 rfl (ix4 b s h ⟨l.val - 64, by omega⟩) (fun b hb => by
      match b with
      | ⟨0, _⟩ => rfl
      | ⟨1, _⟩ => rfl
      | ⟨2, _⟩ => rfl
      | ⟨3, _⟩ => exact absurd rfl hb) (by show 64 + (l.val - 64) = l.val; omega)

theorem cut0 (x : (R H 128).Idx → EReal) (b : Fin 4) (s : Fin 256) (h : Fin H) (i : Fin 32) :
    extractStridedSlice (R H 32) ![0, 0, 0, 0] x h0 (ix4 b s h i) = x (ix4 b s h ⟨i.val, by omega⟩) :=
  extractStridedSlice_apply _ _ _ _ _ (fun a => by
    match a with
    | ⟨0, _⟩ => show b.val = 0 + b.val; omega
    | ⟨1, _⟩ => show s.val = 0 + s.val; omega
    | ⟨2, _⟩ => show h.val = 0 + h.val; omega
    | ⟨3, _⟩ => show i.val = 0 + i.val; omega)

theorem cut32 (x : (R H 128).Idx → EReal) (b : Fin 4) (s : Fin 256) (h : Fin H) (i : Fin 32) :
    extractStridedSlice (R H 32) ![0, 0, 0, 32] x h32 (ix4 b s h i) = x (ix4 b s h ⟨i.val + 32, by omega⟩) :=
  extractStridedSlice_apply _ _ _ _ _ (fun a => by
    match a with
    | ⟨0, _⟩ => show b.val = 0 + b.val; omega
    | ⟨1, _⟩ => show s.val = 0 + s.val; omega
    | ⟨2, _⟩ => show h.val = 0 + h.val; omega
    | ⟨3, _⟩ => show i.val + 32 = 32 + i.val; omega)

theorem cut64 (x : (R H 128).Idx → EReal) (b : Fin 4) (s : Fin 256) (h : Fin H) (i : Fin 64) :
    extractStridedSlice (R H 64) ![0, 0, 0, 64] x h64 (ix4 b s h i) = x (ix4 b s h ⟨i.val + 64, by omega⟩) :=
  extractStridedSlice_apply _ _ _ _ _ (fun a => by
    match a with
    | ⟨0, _⟩ => show b.val = 0 + b.val; omega
    | ⟨1, _⟩ => show s.val = 0 + s.val; omega
    | ⟨2, _⟩ => show h.val = 0 + h.val; omega
    | ⟨3, _⟩ => show i.val + 64 = 64 + i.val; omega)

theorem over_heads (x : (R 1 32).Idx → EReal) (b : Fin 4) (s : Fin 256) (h : Fin H) (i : Fin 32) :
    broadcastInDim (R H 32) ![0, 1, 2, 3] hb x (ix4 b s h i) = x (ix4 b s 0 i) :=
  broadcastInDim_apply _ _ _ _ _ (fun a => by
    match a with
    | ⟨0, _⟩ => rfl
    | ⟨1, _⟩ => rfl
    | ⟨2, _⟩ => rfl
    | ⟨3, _⟩ => rfl)

theorem turned_apply (P : IVec S4x256 32) (x : FVec Ideal (R H 128) .f32) (b : Fin 4) (s : Fin 256) (h : Fin H) (l : Fin 128) :
    (turned h0 h32 h64 hb hc x (cosines P) (sines P) (ix4 b s h l) : EReal) = QuantRow.rot (P (ix2 b s)) (fun l => x (ix4 b s h l)) l := by
  unfold turned QuantRow.rot
  refine (beside_apply hc _ _ _ b s h l).trans ?_
  split
  · next h1 =>
    show @HAdd.hAdd EReal EReal EReal _
      (@HMul.hMul EReal EReal EReal _ (extractStridedSlice (R H 32) ![0, 0, 0, 0] x h0 (ix4 b s h _)) (broadcastInDim (R H 32) ![0, 1, 2, 3] hb (cosines P) (ix4 b s h _)))
      (@HMul.hMul EReal EReal EReal _ (extractStridedSlice (R H 32) ![0, 0, 0, 32] x h32 (ix4 b s h _)) (broadcastInDim (R H 32) ![0, 1, 2, 3] hb (sines P) (ix4 b s h _))) = _
    rw [cut0, cut32, over_heads, over_heads, cosines_apply, sines_apply]
  split
  · next h1 h2 =>
    show @HSub.hSub EReal EReal EReal _
      (@HMul.hMul EReal EReal EReal _ (extractStridedSlice (R H 32) ![0, 0, 0, 32] x h32 (ix4 b s h _)) (broadcastInDim (R H 32) ![0, 1, 2, 3] hb (cosines P) (ix4 b s h _)))
      (@HMul.hMul EReal EReal EReal _ (extractStridedSlice (R H 32) ![0, 0, 0, 0] x h0 (ix4 b s h _)) (broadcastInDim (R H 32) ![0, 1, 2, 3] hb (sines P) (ix4 b s h _))) = _
    rw [cut0, cut32, over_heads, over_heads, cosines_apply, sines_apply]
    have e : (⟨l.val - 32 + 32, by omega⟩ : Fin 128) = l := Fin.ext (by show l.val - 32 + 32 = l.val; omega)
    rw [e]
  · next h1 h2 =>
    rw [cut64]
    exact congrArg (fun k => x (ix4 b s h k)) (Fin.ext (by show l.val - 64 + 64 = l.val; omega))

end Turn

/-! ## The rows, their tops and exponents -/

def heads (q : FVec Ideal S4x256x32x128 .f32) (k v : FVec Ideal S4x256x8x128 .f32) : FVec Ideal S4x256x48x128 .f32 :=
  concatenate S4x256x48x128 2 [⟨S4x256x32x128, q⟩, ⟨S4x256x8x128, k⟩, ⟨S4x256x8x128, v⟩]
    concatenates_S4x256x32x128_S4x256x8x128_S4x256x8x128_S4x256x48x128_d2

theorem heads_apply (q : S4x256x32x128.Idx → EReal) (k v : S4x256x8x128.Idx → EReal) (b : Fin 4) (s : Fin 256) (h : Fin 48) (l : Fin 128) :
    (heads q k v (ix4 b s h l) : EReal) = if h1 : h.val < 32 then q (ix4 b s ⟨h.val, h1⟩ l) else if h2 : h.val < 40 then k (ix4 b s ⟨h.val - 32, by omega⟩ l)
      else v (ix4 b s ⟨h.val - 40, by omega⟩ l) := by
  unfold heads
  split
  · next h1 =>
    exact concatenate_apply_piece (t := S4x256x48x128) 2 ([⟨S4x256x32x128, q⟩, ⟨S4x256x8x128, k⟩, ⟨S4x256x8x128, v⟩] : List ((s : Shape) × (s.Idx → EReal))) concatenates_S4x256x32x128_S4x256x8x128_S4x256x8x128_S4x256x48x128_d2
      (ix4 b s h l) 0 (by decide : 0 < 3) S4x256x32x128 q rfl rfl 0 rfl (ix4 b s ⟨h.val, h1⟩ l) (fun b hb => by
      match b with
      | ⟨0, _⟩ => rfl
      | ⟨1, _⟩ => rfl
      | ⟨2, _⟩ => exact absurd rfl hb
      | ⟨3, _⟩ => rfl) (by show 0 + h.val = h.val; omega)
  split
  · next h1 h2 =>
    exact concatenate_apply_piece (t := S4x256x48x128) 2 ([⟨S4x256x32x128, q⟩, ⟨S4x256x8x128, k⟩, ⟨S4x256x8x128, v⟩] : List ((s : Shape) × (s.Idx → EReal))) concatenates_S4x256x32x128_S4x256x8x128_S4x256x8x128_S4x256x48x128_d2
      (ix4 b s h l) 1 (by decide : 1 < 3) S4x256x8x128 k rfl rfl 32 rfl (ix4 b s ⟨h.val - 32, by omega⟩ l) (fun b hb => by
      match b with
      | ⟨0, _⟩ => rfl
      | ⟨1, _⟩ => rfl
      | ⟨2, _⟩ => exact absurd rfl hb
      | ⟨3, _⟩ => rfl) (by show 32 + (h.val - 32) = h.val; omega)
  · next h1 h2 =>
    exact concatenate_apply_piece (t := S4x256x48x128) 2 ([⟨S4x256x32x128, q⟩, ⟨S4x256x8x128, k⟩, ⟨S4x256x8x128, v⟩] : List ((s : Shape) × (s.Idx → EReal))) concatenates_S4x256x32x128_S4x256x8x128_S4x256x8x128_S4x256x48x128_d2
      (ix4 b s h l) 2 (by decide : 2 < 3) S4x256x8x128 v rfl rfl 40 rfl (ix4 b s ⟨h.val - 40, by omega⟩ l) (fun b hb => by
      match b with
      | ⟨0, _⟩ => rfl
      | ⟨1, _⟩ => rfl
      | ⟨2, _⟩ => exact absurd rfl hb
      | ⟨3, _⟩ => rfl) (by show 40 + (h.val - 40) = h.val; omega)

def tops (x : FVec Ideal S4x256x48x128 .f32) : FVec Ideal S4x256x48 .f32 :=
  mulf (Host.reduce FloatOps.maximumf (Host.absf x) (constant S_ .f32 0xFF800000#32) reducesTo_S4x256x48x128_S4x256x48_d3 h_S_)
    (broadcastInDim S4x256x48 ![] bcast_S_S4x256x48 (constant S_ .f32 0x37924925#32))

theorem reduces : S4x256x48x128.Reduces [3] S4x256x48 := by decide

theorem lift_lane (b : Fin 4) (s : Fin 256) (h : Fin 48) (l : Fin 128) : reduces.lift (ix3 b s h) l = ix4 b s h l := by
  funext a
  match a with
  | ⟨0, _⟩ => rfl
  | ⟨1, _⟩ => rfl
  | ⟨2, _⟩ => rfl
  | ⟨3, _⟩ => rfl

theorem times_constant (x : FVec Ideal S4x256x48 .f32) (w : BitVec 32) (j : S4x256x48.Idx) :
    (mulf x (broadcastInDim S4x256x48 ![] bcast_S_S4x256x48 (constant S_ .f32 w)) j : EReal) = @HMul.hMul EReal EReal EReal _ (x j) (Ideal.ofBits .f32 w) := rfl

theorem tops_apply (x : FVec Ideal S4x256x48x128 .f32) (b : Fin 4) (s : Fin 256) (h : Fin 48) :
    (tops x (ix3 b s h) : EReal) = QuantRow.top (fun l => x (ix4 b s h l)) := by
  unfold tops QuantRow.top
  refine (times_constant _ _ _).trans ?_
  refine congrArg (fun z : EReal => z * Ideal.ofBits .f32 0x37924925#32) ?_
  refine (congrFun (hostReduce_maximumf_eq_multiReduction (F := Ideal) (Host.absf x) 0xFF800000#32 reducesTo_S4x256x48x128_S4x256x48_d3 h_S_ reduces (.inl rfl) rfl) (ix3 b s h)).trans ?_
  refine (Ideal.multiReduction_maximumf_single _ _ _ _ _ _).trans ?_
  show Finset.fold max _ (fun l : Fin 128 => Host.absf x (reduces.lift (ix3 b s h) l)) _ = _
  refine congrArg (fun f : Fin 128 → EReal => Finset.fold max (Ideal.ofBits .f32 0xFF800000#32) f Finset.univ) (funext fun l => ?_)
  rw [lift_lane]
  rfl

def expos (t : FVec Ideal S4x256x48 .f32) : FVec Ideal S4x256x48 .f32 :=
  select (cmpf .olt t (broadcastInDim S4x256x48 ![] bcast_S_S4x256x48 (constant S_ .f32 0x00800000#32)))
    (broadcastInDim S4x256x48 ![] bcast_S_S4x256x48 (constant S_ .f32 0x00000000#32))
    (addf (Host.floor (Host.divf (Host.log t) (broadcastInDim S4x256x48 ![] bcast_S_S4x256x48 (Host.log (constant S_ .f32 0x40000000#32)))))
      (broadcastInDim S4x256x48 ![] bcast_S_S4x256x48 (constant S_ .f32 0x3F800000#32)))

theorem expos_apply (t : FVec Ideal S4x256x48 .f32) (j : S4x256x48.Idx) : (expos t j : EReal) = QuantMath.expR (t j) := by
  unfold expos QuantMath.expR
  show Scalar.select (Ideal.cmp .olt (t j) (Ideal.ofBits .f32 0x00800000#32)) (Ideal.ofBits .f32 0x00000000#32)
    (@HAdd.hAdd EReal EReal EReal _ (Ideal.liftRound Int.floor (Ideal.div (Ideal.log (t j)) (Ideal.log (Ideal.ofBits .f32 0x40000000#32)))) (Ideal.ofBits .f32 0x3F800000#32)) = _
  rfl

def ups (t : FVec Ideal S4x256x48 .f32) : FVec Ideal S4x256x48 .f32 :=
  Host.powf (broadcastInDim S4x256x48 ![] bcast_S_S4x256x48 (constant S_ .f32 0x40000000#32)) (expos t)

def downs (t : FVec Ideal S4x256x48 .f32) : FVec Ideal S4x256x48 .f32 :=
  Host.powf (broadcastInDim S4x256x48 ![] bcast_S_S4x256x48 (constant S_ .f32 0x40000000#32)) (Host.negf (expos t))

theorem ups_apply (t : FVec Ideal S4x256x48 .f32) (j : S4x256x48.Idx) : (ups t j : EReal) = QuantMath.up (t j) := by
  unfold ups QuantMath.up
  rw [← expos_apply]
  rfl

theorem downs_apply (t : FVec Ideal S4x256x48 .f32) (j : S4x256x48.Idx) : (downs t j : EReal) = QuantMath.down (t j) := by
  unfold downs QuantMath.down
  rw [← expos_apply]
  rfl

/-- One value a head over the head's lanes. -/
def over {φ : FTy} (u : FVec Ideal S4x256x48 φ) : FVec Ideal S4x256x48x128 φ :=
  broadcastInDim S4x256x48x128 ![0, 1, 2, 3] bcast_S4x256x48x1_S4x256x48x128_0_1_2_3 (broadcastInDim S4x256x48x1 ![0, 1, 2] bcast_S4x256x48_S4x256x48x1_0_1_2 u)

theorem over_apply {φ : FTy} (u : FVec Ideal S4x256x48 φ) (b : Fin 4) (s : Fin 256) (h : Fin 48) (l : Fin 128) : over u (ix4 b s h l) = u (ix3 b s h) := by
  unfold over
  refine (broadcastInDim_apply _ _ _ _ (ix4 b s h 0 : S4x256x48x1.Idx) (fun a => by
    match a with
    | ⟨0, _⟩ => rfl
    | ⟨1, _⟩ => rfl
    | ⟨2, _⟩ => rfl
    | ⟨3, _⟩ => rfl)).trans ?_
  exact broadcastInDim_apply _ _ _ _ (ix3 b s h : S4x256x48.Idx) (fun a => by
    match a with
    | ⟨0, _⟩ => rfl
    | ⟨1, _⟩ => rfl
    | ⟨2, _⟩ => rfl)

/-- A token's 48 heads of 128 lanes in one row. -/
theorem flat_apply {α : Type} (x : S4x256x48x128.Idx → α) (n : Fin 1024) (k : Fin 6144) :
    shapeCast S1024x6144 x shapeCasts_S4x256x48x128_S1024x6144 (ix2 n k)
      = x (ix4 ⟨n.val / 256, by omega⟩ ⟨n.val % 256, by omega⟩ ⟨k.val / 128, by omega⟩ ⟨k.val % 128, by omega⟩) :=
  shapeCast_apply _ _ _ _ (by
    rw [Shape.rowMajor_val_two, Shape.rowMajor_val_four]
    show ((n.val / 256 * 256 + n.val % 256) * 48 + k.val / 128) * 128 + k.val % 128 = n.val * 6144 + k.val
    omega)

theorem flat_scales {α : Type} (x : S4x256x48.Idx → α) (n : Fin 1024) (h : Fin 48) :
    shapeCast S1024x48 x shapeCasts_S4x256x48_S1024x48 (ix2 n h) = x (ix3 ⟨n.val / 256, by omega⟩ ⟨n.val % 256, by omega⟩ h) :=
  shapeCast_apply _ _ _ _ (by
    rw [Shape.rowMajor_val_two, Shape.rowMajor_val_three]
    show (n.val / 256 * 256 + n.val % 256) * 48 + h.val = n.val * 48 + h.val
    omega)

end Cert.QuantRefOps

end
-- ==== Proof.QuantRead.lean ====
/- The reference's host operations, read stage by stage. -/
module

public import proofs.«01_k».proof.Proof.QuantRefOps
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

namespace Cert.QuantRefIdeal.Read

open Cert.QuantRefIdeal Cert.QuantRefIdeal.Gen
open Cert.QuantRefOps

abbrev Ops := List (HloOp τ sig (Elt Ideal))

/-- The angles; the queries' turn; the keys' turn; the rows and their tops; the exponents and what is built of them. -/
abbrev opsA : Ops := hostOps0.take 26
abbrev opsB : Ops := (hostOps0.drop 26).take 15
abbrev opsC : Ops := (hostOps0.drop 41).take 15
abbrev opsD : Ops := (hostOps0.drop 56).take 8
abbrev opsE : Ops := hostOps0.drop 64 ++ (hostOps0_1 ++ hostOps0_2)

variable (U : Valuation τ sig (Elt Ideal))

theorem a18 : (StableHlo.after opsA U main_v18 : FVec Ideal S4x256x1x32 .f32) = cosines (U main_arg3) := by
  unfold opsA hostOps0
  simp only [List.take_succ_cons, List.take_zero]
  after_results
  rfl

theorem a20 : (StableHlo.after opsA U main_v20 : FVec Ideal S4x256x1x32 .f32) = sines (U main_arg3) := by
  unfold opsA hostOps0
  simp only [List.take_succ_cons, List.take_zero]
  after_results
  rfl

theorem a_arg0 : StableHlo.after opsA U main_arg0 = U main_arg0 := by after_reads_simp
theorem a_arg1 : StableHlo.after opsA U main_arg1 = U main_arg1 := by after_reads_simp
theorem a_arg2 : StableHlo.after opsA U main_arg2 = U main_arg2 := by after_reads_simp

abbrev turnedQ (x : FVec Ideal S4x256x32x128 .f32) (C S : FVec Ideal S4x256x1x32 .f32) : FVec Ideal S4x256x32x128 .f32 :=
  turned (H := 32) slices_S4x256x32x128_S4x256x32x32_0_0_0_0 slices_S4x256x32x128_S4x256x32x32_0_0_0_32
    slices_S4x256x32x128_S4x256x32x64_0_0_0_64 bcast_S4x256x1x32_S4x256x32x32_0_1_2_3
    concatenates_S4x256x32x32_S4x256x32x32_S4x256x32x64_S4x256x32x128_d3 x C S

abbrev turnedK (x : FVec Ideal S4x256x8x128 .f32) (C S : FVec Ideal S4x256x1x32 .f32) : FVec Ideal S4x256x8x128 .f32 :=
  turned (H := 8) slices_S4x256x8x128_S4x256x8x32_0_0_0_0 slices_S4x256x8x128_S4x256x8x32_0_0_0_32
    slices_S4x256x8x128_S4x256x8x64_0_0_0_64 bcast_S4x256x1x32_S4x256x8x32_0_1_2_3
    concatenates_S4x256x8x32_S4x256x8x32_S4x256x8x64_S4x256x8x128_d3 x C S

theorem b35 : (StableHlo.after opsB U main_v35 : FVec Ideal S4x256x32x128 .f32)
    = turnedQ (extf .f32 (U main_arg0 : FVec Ideal S4x256x32x128 .bf16) bitsLt_bf16_f32) (U main_v18) (U main_v20) := by
  unfold opsB hostOps0
  simp only [List.take_succ_cons, List.take_zero, List.drop_succ_cons, List.drop_zero]
  after_results
  rfl

theorem b_arg1 : StableHlo.after opsB U main_arg1 = U main_arg1 := by after_reads_simp
theorem b_arg2 : StableHlo.after opsB U main_arg2 = U main_arg2 := by after_reads_simp
theorem b18 : StableHlo.after opsB U main_v18 = U main_v18 := by after_reads_simp
theorem b20 : StableHlo.after opsB U main_v20 = U main_v20 := by after_reads_simp

theorem c50 : (StableHlo.after opsC U main_v50 : FVec Ideal S4x256x8x128 .f32)
    = turnedK (extf .f32 (U main_arg1 : FVec Ideal S4x256x8x128 .bf16) bitsLt_bf16_f32) (U main_v18) (U main_v20) := by
  unfold opsC hostOps0
  simp only [List.take_succ_cons, List.take_zero, List.drop_succ_cons, List.drop_zero]
  after_results
  rfl

theorem c_arg2 : StableHlo.after opsC U main_arg2 = U main_arg2 := by after_reads_simp
theorem c35 : StableHlo.after opsC U main_v35 = U main_v35 := by after_reads_simp

theorem d52 : (StableHlo.after opsD U main_v52 : FVec Ideal S4x256x48x128 .f32)
    = heads (U main_v35) (U main_v50) (extf .f32 (U main_arg2 : FVec Ideal S4x256x8x128 .bf16) bitsLt_bf16_f32) := by
  unfold opsD hostOps0
  simp only [List.take_succ_cons, List.take_zero, List.drop_succ_cons, List.drop_zero]
  after_results
  rfl

theorem d56 : (StableHlo.after opsD U main_v56 : FVec Ideal S4x256x48 .f32)
    = tops (heads (U main_v35) (U main_v50) (extf .f32 (U main_arg2 : FVec Ideal S4x256x8x128 .bf16) bitsLt_bf16_f32)) := by
  unfold opsD hostOps0
  simp only [List.take_succ_cons, List.take_zero, List.drop_succ_cons, List.drop_zero]
  after_results
  rfl

theorem e76 : (StableHlo.after opsE U main_v76 : FVec Ideal S1024x6144 .f32)
    = shapeCast S1024x6144 (mulf (U main_v52 : FVec Ideal S4x256x48x128 .f32) (over (downs (U main_v56)))) shapeCasts_S4x256x48x128_S1024x6144 := by
  unfold opsE hostOps0 hostOps0_1 hostOps0_2
  simp only [List.drop_succ_cons, List.drop_zero, List.cons_append, List.nil_append]
  after_results
  rfl

theorem e80 : (StableHlo.after opsE U main_v80 : FVec Ideal S1024x6144 .bf16)
    = shapeCast S1024x6144 (over (truncf .bf16 (ups (U main_v56)) bitsLt_bf16_f32)) shapeCasts_S4x256x48x128_S1024x6144 := by
  unfold opsE hostOps0 hostOps0_1 hostOps0_2
  simp only [List.drop_succ_cons, List.drop_zero, List.cons_append, List.nil_append]
  after_results
  rfl

theorem e81 : (StableHlo.after opsE U main_v81 : FVec Ideal S1024x48 .f32)
    = shapeCast S1024x48 (ups (U main_v56)) shapeCasts_S4x256x48_S1024x48 := by
  unfold opsE hostOps0 hostOps0_1 hostOps0_2
  simp only [List.drop_succ_cons, List.drop_zero, List.cons_append, List.nil_append]
  after_results
  rfl

theorem stages : (List.flatten [hostOps0, hostOps0_1, hostOps0_2] : Ops) = opsA ++ (opsB ++ (opsC ++ (opsD ++ opsE))) := rfl

theorem after_both (l₁ l₂ : Ops) (U : Valuation τ sig (Elt Ideal)) : StableHlo.after (l₁ ++ l₂) U = StableHlo.after l₂ (StableHlo.after l₁ U) := by
  induction l₁ generalizing U with
  | nil => rfl
  | cons o l ih => exact ih _

theorem after_stages : StableHlo.after (List.flatten [hostOps0, hostOps0_1, hostOps0_2] : Ops) U
    = StableHlo.after opsE (StableHlo.after opsD (StableHlo.after opsC (StableHlo.after opsB (StableHlo.after opsA U)))) := by
  rw [stages, after_both, after_both, after_both, after_both]

end Cert.QuantRefIdeal.Read

end
-- ==== Proof.QuantRefRows.lean ====
/- What the reference's host operations leave for its last call, and its scales. -/
module

public import proofs.«01_k».proof.Proof.QuantRead

@[expose] public section

set_option maxRecDepth 16384

noncomputable section

open Idealize.ShloMosaic Idealize.ShloMosaic.TcCoe Idealize.SL.Sem
open Idealize.ShloMosaic.ValueIdx (ix1 ix2 ix3 ix4 eq_ix2)

namespace Cert.QuantRefIdeal.Whole

open Cert.QuantRefIdeal Cert.QuantRefIdeal.Gen Cert.QuantRefIdeal.Value Cert.QuantRefIdeal.Read
open Cert.QuantRefOps

variable (m : (ℓ : Loc nD τ sig) → Buf (Elt Ideal) ℓ) (ρ : Dev nD → PrngReg) (c : Dev nD)

abbrev qA : S4x256x32x128.Idx → EReal := m ((c : Thread nD τ).loc main_arg0)
abbrev kA : S4x256x8x128.Idx → EReal := m ((c : Thread nD τ).loc main_arg1)
abbrev vA : S4x256x8x128.Idx → EReal := m ((c : Thread nD τ).loc main_arg2)
abbrev pA : S4x256.Idx → BitVec 32 := m ((c : Thread nD τ).loc main_arg3)

/-- The rows to quantise: the turned queries, the turned keys, the values. -/
def rows (q : S4x256x32x128.Idx → EReal) (k v : S4x256x8x128.Idx → EReal) (p : S4x256.Idx → BitVec 32) : FVec Ideal S4x256x48x128 .f32 :=
  heads (turnedQ (extf (F := Ideal) (φ := .bf16) .f32 q bitsLt_bf16_f32) (cosines p) (sines p)) (turnedK (extf (F := Ideal) (φ := .bf16) .f32 k bitsLt_bf16_f32) (cosines p) (sines p))
    (extf (F := Ideal) (φ := .bf16) .f32 v bitsLt_bf16_f32)

theorem rows_apply (q : S4x256x32x128.Idx → EReal) (k v : S4x256x8x128.Idx → EReal) (p : S4x256.Idx → BitVec 32)
    (b : Fin 4) (s : Fin 256) (h : Fin 48) (l : Fin 128) : (rows q k v p (ix4 b s h l) : EReal) = QuantSpec.entry q k v p b s h l := by
  unfold rows QuantSpec.entry
  rw [heads_apply]
  split
  · next h1 => exact turned_apply (H := 32) _ _ _ _ _ p _ b s ⟨h.val, h1⟩ l
  split
  · next h1 h2 => exact turned_apply (H := 8) _ _ _ _ _ p _ b s ⟨h.val - 32, by omega⟩ l
  · rfl

abbrev theRows : FVec Ideal S4x256x48x128 .f32 := rows (qA m c) (kA m c) (vA m c) (pA m c)

theorem lane_rows (n : Fin 1024) (h : Fin 48) :
    (fun l : Fin 128 => (theRows m c (ix4 ⟨n.val / 256, by omega⟩ ⟨n.val % 256, by omega⟩ h l) : EReal))
      = QuantSpec.entries (qA m c) (kA m c) (vA m c) (pA m c) n h :=
  funext fun l => rows_apply _ _ _ _ _ _ h l

theorem top_rows (n : Fin 1024) (h : Fin 48) : (tops (theRows m c) (ix3 ⟨n.val / 256, by omega⟩ ⟨n.val % 256, by omega⟩ h) : EReal)
    = QuantRow.top (QuantSpec.entries (qA m c) (kA m c) (vA m c) (pA m c) n h) := by
  rw [tops_apply, lane_rows]

theorem V_eq (r : Ref sig .tc) : V m c r = StableHlo.after opsE (StableHlo.after opsD (StableHlo.after opsC (StableHlo.after opsB (StableHlo.after opsA (fun b => m (c, b)))))) r := by
  show StableHlo.after (List.flatten [hostOps0, hostOps0_1, hostOps0_2]) (fun b => m (c, b)) _ = _
  rw [after_stages]

theorem V_quotient : (V m c main_v76 : FVec Ideal S1024x6144 .f32)
    = shapeCast S1024x6144 (mulf (theRows m c) (over (downs (tops (theRows m c))))) shapeCasts_S4x256x48x128_S1024x6144 := by
  rw [V_eq, e76, d52, d56, c50, c35, c_arg2, b35, b_arg1, b_arg2, b18, b20, a18, a20, a_arg0, a_arg1, a_arg2]
  rfl

theorem V_spread : (V m c main_v80 : FVec Ideal S1024x6144 .bf16)
    = shapeCast S1024x6144 (over (truncf .bf16 (ups (tops (theRows m c))) bitsLt_bf16_f32)) shapeCasts_S4x256x48x128_S1024x6144 := by
  rw [V_eq, e80, d56, c50, c35, c_arg2, b35, b_arg1, b_arg2, b18, b20, a18, a20, a_arg0, a_arg1, a_arg2]
  rfl

theorem V_scales : (V m c main_v81 : FVec Ideal S1024x48 .f32)
    = shapeCast S1024x48 (ups (tops (theRows m c))) shapeCasts_S4x256x48_S1024x48 := by
  rw [V_eq, e81, d56, c50, c35, c_arg2, b35, b_arg1, b_arg2, b18, b20, a18, a20, a_arg0, a_arg1, a_arg2]
  rfl

abbrev row (n : Fin 1024) (x : Fin 6144) : Fin 128 → EReal :=
  QuantSpec.entries (qA m c) (kA m c) (vA m c) (pA m c) n ⟨x.val / 128, by omega⟩

theorem quotient_apply (n : Fin 1024) (x : Fin 6144) : (V m c main_v76 : S1024x6144.Idx → EReal) (ix2 n x)
    = row m c n x ⟨x.val % 128, by omega⟩ * QuantMath.down (QuantRow.top (row m c n x)) := by
  rw [V_quotient, flat_apply]
  refine congrArg₂ (fun a b : EReal => a * b) ?_ ?_
  · exact congrFun (lane_rows m c n ⟨x.val / 128, by omega⟩) ⟨x.val % 128, by omega⟩
  · rw [over_apply, downs_apply, top_rows]

theorem narrow_apply (x : FVec Ideal S4x256x48 .f32) (j : S4x256x48.Idx) : (truncf .bf16 x bitsLt_bf16_f32 j : EReal) = x j := rfl

theorem spread_apply (n : Fin 1024) (x : Fin 6144) : (V m c main_v80 : S1024x6144.Idx → EReal) (ix2 n x) = QuantRow.scale (row m c n x) := by
  rw [V_spread, flat_apply, over_apply]
  refine (narrow_apply _ _).trans ?_
  rw [ups_apply, top_rows]
  rfl

theorem final_scales : (V m c main_v81 : S1024x48.Idx → EReal) = QuantSpec.scales (qA m c) (kA m c) (vA m c) (pA m c) := by
  funext j
  obtain ⟨n, h, rfl⟩ : ∃ (n : Fin 1024) (h : Fin 48), j = ix2 n h := ⟨j 0, j 1, eq_ix2 j⟩
  rw [V_scales, flat_scales, ups_apply, top_rows]
  rfl

end Cert.QuantRefIdeal.Whole

end
-- ==== Proof.QuantRef.lean ====
/- The reference ends with the codes, the scales and the coded rows the specification names. -/
module

public import proofs.«01_k».proof.Proof.QuantRefRows

@[expose] public section

set_option maxRecDepth 16384

noncomputable section

open Idealize.ShloMosaic Idealize.ShloMosaic.TcCoe Idealize.SL.Sem
open Idealize.ShloMosaic.ValueIdx (ix1 ix2 ix3 ix4 eq_ix2)

namespace Cert.QuantRefIdeal.Whole

open Cert.QuantRefIdeal Cert.QuantRefIdeal.Gen Cert.QuantRefIdeal.Value Cert.QuantRefIdeal.Read
open Cert.QuantRefOps

variable (m : (ℓ : Loc nD τ sig) → Buf (Elt Ideal) ℓ) (ρ : Dev nD → PrngReg) (c : Dev nD)

theorem hz : (![0, 0] : Fin 2 → Nat) = fun _ => 0 := funext fun a => by fin_cases a <;> rfl
theorem N1 : cfg0.N = 1 := N_0
theorem index_eq : ∀ t : Fin cfg0.N, win0_0.index t 0 = 0 ∧ win0_0.index t 1 = 0
    ∧ win0_1.index t 0 = 0 ∧ win0_1.index t 1 = 0 ∧ win0_2.index t 0 = 0 ∧ win0_2.index t 1 = 0 ∧ win0_3.index t 0 = 0 ∧ win0_3.index t 1 = 0 :=
  (by decide +kernel : ∀ t : Fin grid0.N, _)

theorem whole0 (t : Fin cfg0.N) (A : S1024x6144.Idx → EReal) (j : S1024x6144.Idx) : (((cfg0.win 0).blk t).view.read (Elt Ideal) A : S1024x6144.Idx → EReal) j = A j := by
  obtain ⟨e0, e1, -⟩ := index_eq t
  rw [View.read_apply]
  refine congrArg A ?_
  funext a
  apply Fin.ext
  match a with
  | ⟨0, _⟩ => show win0_0.index t 0 * 1024 + 1 * (j 0).val = (j 0).val; omega
  | ⟨1, _⟩ => show win0_0.index t 1 * 6144 + 1 * (j 1).val = (j 1).val; omega

theorem whole1 (t : Fin cfg0.N) (A : S1024x6144.Idx → EReal) (j : S1024x6144.Idx) : (((cfg0.win 1).blk t).view.read (Elt Ideal) A : S1024x6144.Idx → EReal) j = A j := by
  obtain ⟨-, -, e0, e1, -⟩ := index_eq t
  rw [View.read_apply]
  refine congrArg A ?_
  funext a
  apply Fin.ext
  match a with
  | ⟨0, _⟩ => show win0_1.index t 0 * 1024 + 1 * (j 0).val = (j 0).val; omega
  | ⟨1, _⟩ => show win0_1.index t 1 * 6144 + 1 * (j 1).val = (j 1).val; omega

theorem blk_quotient (t : Fin cfg0.N) (j : S1024x6144.Idx) : (iblk m c 0 t : S1024x6144.Idx → EReal) j = (V m c main_v76 : S1024x6144.Idx → EReal) j := by
  unfold iblk
  exact whole0 t _ j

theorem blk_spread (t : Fin cfg0.N) (j : S1024x6144.Idx) : (iblk m c 1 t : S1024x6144.Idx → EReal) j = (V m c main_v80 : S1024x6144.Idx → EReal) j := by
  unfold iblk
  exact whole1 t _ j

theorem codes_apply (P0 : FVec Ideal S1024x6144 .f32) (j : S1024x6144.Idx) : (k0_pay1 (F := Ideal) P0 j : EReal)
    = min (Ideal.ofBits .f32 0x47600000#32) (max (Ideal.ofBits .f32 0xC7600000#32) (P0 j)) := by
  unfold k0_pay1
  simp only [shapeCast_self]
  rfl

theorem coded_apply (P0 : FVec Ideal S1024x6144 .f32) (P1 : FVec Ideal S1024x6144 .bf16) (j : S1024x6144.Idx) : (k0_pay2 (F := Ideal) P0 P1 j : EReal)
    = @HMul.hMul EReal EReal EReal _ (k0_pay1 (F := Ideal) P0 j) (P1 j) := by
  unfold k0_pay2
  simp only [shapeCast_self]
  rfl

theorem out2_apply (t : Fin cfg0.N) : (out0_2 (F := Ideal) (iblk m c 0 t) (iblk m c 1 t) : S1024x6144.Idx → EReal)
    = QuantSpec.codes (qA m c) (kA m c) (vA m c) (pA m c) := by
  unfold out0_2
  rw [View.canon_unit_zero hz, View.ld_unit_zero (S := S1024x6144) hz]
  funext j
  obtain ⟨n, x, rfl⟩ : ∃ (n : Fin 1024) (x : Fin 6144), j = ix2 n x := ⟨j 0, j 1, eq_ix2 j⟩
  rw [codes_apply, blk_quotient, quotient_apply]
  rfl

theorem out3_apply (t : Fin cfg0.N) : (out0_3 (F := Ideal) (iblk m c 0 t) (iblk m c 1 t) : S1024x6144.Idx → EReal)
    = QuantSpec.coded (qA m c) (kA m c) (vA m c) (pA m c) := by
  unfold out0_3
  rw [View.canon_unit_zero hz, View.ld_unit_zero (S := S1024x6144) hz, View.ld_unit_zero (S := S1024x6144) hz]
  funext j
  obtain ⟨n, x, rfl⟩ : ∃ (n : Fin 1024) (x : Fin 6144), j = ix2 n x := ⟨j 0, j 1, eq_ix2 j⟩
  rw [coded_apply, codes_apply, blk_quotient, quotient_apply, blk_spread, spread_apply]
  rfl

theorem flushed2_eq (t : Fin cfg0.N) (hf : (cfg0.win 2).flush t = true) :
    (dats m 0 c).flushed 2 t = ((cfg0.win 2).blk t).view.read (Elt Ideal) (QuantSpec.codes (qA m c) (kA m c) (vA m c) (pA m c)) := by
  rw [flushed2, out2_apply]
  obtain ⟨-, -, -, -, e0, e1, -⟩ := index_eq t
  have hz' : (fun a => win0_2.index t a * main_v82_0.ty.shape.size a) = fun _ => 0 := funext fun a => by
    match a with
    | ⟨0, _⟩ => show win0_2.index t 0 * _ = 0; rw [e0, Nat.zero_mul]
    | ⟨1, _⟩ => show win0_2.index t 1 * _ = 0; rw [e1, Nat.zero_mul]
  exact (Memref.read_access_unit_zero (Elt Ideal) main_v82_0 hz' (fun a => by rw [congrFun hz' a]; simp) _).symm

theorem flushed3_eq (t : Fin cfg0.N) (hf : (cfg0.win 3).flush t = true) :
    (dats m 0 c).flushed 3 t = ((cfg0.win 3).blk t).view.read (Elt Ideal) (QuantSpec.coded (qA m c) (kA m c) (vA m c) (pA m c)) := by
  rw [flushed3, out3_apply]
  obtain ⟨-, -, -, -, -, -, e0, e1⟩ := index_eq t
  have hz' : (fun a => win0_3.index t a * main_v82_1.ty.shape.size a) = fun _ => 0 := funext fun a => by
    match a with
    | ⟨0, _⟩ => show win0_3.index t 0 * _ = 0; rw [e0, Nat.zero_mul]
    | ⟨1, _⟩ => show win0_3.index t 1 * _ = 0; rw [e1, Nat.zero_mul]
  exact (Memref.read_access_unit_zero (Elt Ideal) main_v82_1 hz' (fun a => by rw [congrFun hz' a]; simp) _).symm

theorem final2 : (dats m 0 c).arrAt 2 cfg0.N = QuantSpec.codes (qA m c) (kA m c) (vA m c) (pA m c) :=
  (dats m 0 c).arrAt_eq_of_cover 2 _ (flushed2_eq m c) fun i => by
    let t : Fin cfg0.N := ⟨0, by rw [N1]; decide⟩
    refine ⟨t, (by decide +kernel : ∀ t : Fin grid0.N, win0_2.flush t = true) t, ?_⟩
    show i ∈ ((View.whole main_v82_0).slice (win0_2.rect t)).set
    rw [View.set_slice_whole, Rect.mem_set_unit]
    obtain ⟨-, -, -, -, e0, e1, -⟩ := index_eq t
    intro a
    have h0 : (i 0 : Nat) < 1024 := (i 0).isLt
    have h1 : (i 1 : Nat) < 6144 := (i 1).isLt
    match a with
    | ⟨0, _⟩ => show win0_2.index t 0 * 1024 ≤ (i 0 : Nat) ∧ (i 0 : Nat) < win0_2.index t 0 * 1024 + 1024; omega
    | ⟨1, _⟩ => show win0_2.index t 1 * 6144 ≤ (i 1 : Nat) ∧ (i 1 : Nat) < win0_2.index t 1 * 6144 + 6144; omega

theorem final3 : (dats m 0 c).arrAt 3 cfg0.N = QuantSpec.coded (qA m c) (kA m c) (vA m c) (pA m c) :=
  (dats m 0 c).arrAt_eq_of_cover 3 _ (flushed3_eq m c) fun i => by
    let t : Fin cfg0.N := ⟨0, by rw [N1]; decide⟩
    refine ⟨t, (by decide +kernel : ∀ t : Fin grid0.N, win0_3.flush t = true) t, ?_⟩
    show i ∈ ((View.whole main_v82_1).slice (win0_3.rect t)).set
    rw [View.set_slice_whole, Rect.mem_set_unit]
    obtain ⟨-, -, -, -, -, -, e0, e1⟩ := index_eq t
    intro a
    have h0 : (i 0 : Nat) < 1024 := (i 0).isLt
    have h1 : (i 1 : Nat) < 6144 := (i 1).isLt
    match a with
    | ⟨0, _⟩ => show win0_3.index t 0 * 1024 ≤ (i 0 : Nat) ∧ (i 0 : Nat) < win0_3.index t 0 * 1024 + 1024; omega
    | ⟨1, _⟩ => show win0_3.index t 1 * 6144 ≤ (i 1 : Nat) ∧ (i 1 : Nat) < win0_3.index t 1 * 6144 + 6144; omega

/-- The reference's run: codes, scales, coded rows, and the arguments as launched. -/
theorem run : θ_run defs (onTc (τ := τ) (main (F := Ideal))) ⟨m, fun _ => 0, ρ⟩ fun r => ∀ c : Dev nD,
      r.2.mem ((c : Thread nD τ).loc main_v82_0) = QuantSpec.codes (qA m c) (kA m c) (vA m c) (pA m c)
      ∧ r.2.mem ((c : Thread nD τ).loc main_v81) = QuantSpec.scales (qA m c) (kA m c) (vA m c) (pA m c)
      ∧ r.2.mem ((c : Thread nD τ).loc main_v82_1) = QuantSpec.coded (qA m c) (kA m c) (vA m c) (pA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post2 m r h c).trans (final2 m c),
      ((h c).2 main_v81 (Pipeline.mem_restRefs_of main_v81 (by decide) (by decide))).trans (final_scales m c),
      (post3 m r h c).trans (final3 m c),
      kept_main_arg0 m r h c,
      kept_main_arg1 m r h c,
      kept_main_arg2 m r h c,
      kept_main_arg3 m r h c⟩)
    (run_main m ρ)

end Cert.QuantRefIdeal.Whole

end
-- ==== Proof.QuantClaim.lean ====
/- Kernel and reference end with the same codes, scales and coded rows wherever every argument is finite. -/
module

public import proofs.«01_k».proof.Defs
public import proofs.«01_k».proof.Proof.Gen.Pre_finite
public import proofs.«01_k».proof.Proof.QuantValue
public import proofs.«01_k».proof.Proof.QuantRef
public import Idealize.ShloMosaic.Lib.ReduceAll

@[expose] public section

noncomputable section

open Idealize.ShloMosaic Idealize.ShloMosaic.TcCoe Idealize.SL.Sem

namespace Cert.QuantClaim

open Cert.Pre_finite

theorem le_of_cmp (x y : EReal) (h : Ideal.cmp .ole x y = 1#1) : x ≤ y := by
  by_contra hn
  simp [Ideal.cmp, hn] at h

theorem both (x y : BitVec 1) (h : IntOp.andi x y = 1#1) : x = 1#1 ∧ y = 1#1 := by
  revert x y
  decide

/-- What the precondition says of every element of the three arrays. -/
theorem finite_of (q : FVec Ideal S4x256x32x128 .bf16) (k v : FVec Ideal S4x256x8x128 .bf16) (p : IVec S4x256 32)
    (h : Cert.Pre_finite.fn (F := Ideal) q k v p = fun _ => 1#1) :
    (∀ j, @max EReal _ (q j) (-(q j)) ≤ Ideal.ofBits .f32 0x7F7F0000#32) ∧ (∀ j, @max EReal _ (k j) (-(k j)) ≤ Ideal.ofBits .f32 0x7F7F0000#32)
      ∧ (∀ j, @max EReal _ (v j) (-(v j)) ≤ Ideal.ofBits .f32 0x7F7F0000#32) := by
  have h0 := congrFun h (fun a : Fin 0 => a.elim0)
  unfold Cert.Pre_finite.fn at h0
  obtain ⟨h01, h2⟩ := both _ _ h0
  obtain ⟨h0, h1⟩ := both _ _ h01
  haveI : Subsingleton S_.Idx := ⟨fun a b => funext fun i => i.elim0⟩
  exact ⟨fun j => le_of_cmp _ _ (Host.reduce_andi_all _ _ _ _ _ h0 j), fun j => le_of_cmp _ _ (Host.reduce_andi_all _ _ _ _ _ h1 j),
    fun j => le_of_cmp _ _ (Host.reduce_andi_all _ _ _ _ _ h2 j)⟩

theorem algebraic : Cert.algebraic_QuantIdeal_QuantRefIdeal_pre_finite (hQuantIdeal := Cert.QuantIdeal.Gen.facts)
    (hQuantRefIdeal := Cert.QuantRefIdeal.Gen.facts) (hPre_finite := Cert.Pre_finite.Gen.facts) := by
  intro m g m' g' hpre hargs
  have H : ∀ c n h, QuantRow.Within (2 ^ 129) (QuantSpec.entries (Cert.QuantIdeal.Whole.qA m c) (Cert.QuantIdeal.Whole.kA m c)
      (Cert.QuantIdeal.Whole.vA m c) (Cert.QuantIdeal.Whole.pA m c) n h) := fun c n h => by
    obtain ⟨hq, hk, hv⟩ := finite_of _ _ _ _ (hpre c)
    exact QuantSpec.entries_within _ _ _ _ hq hk hv n h
  refine ⟨fun c => QuantSpec.codes (Cert.QuantIdeal.Whole.qA m c) (Cert.QuantIdeal.Whole.kA m c) (Cert.QuantIdeal.Whole.vA m c) (Cert.QuantIdeal.Whole.pA m c),
    fun c => QuantSpec.scales (Cert.QuantIdeal.Whole.qA m c) (Cert.QuantIdeal.Whole.kA m c) (Cert.QuantIdeal.Whole.vA m c) (Cert.QuantIdeal.Whole.pA m c),
    fun c => QuantSpec.coded (Cert.QuantIdeal.Whole.qA m c) (Cert.QuantIdeal.Whole.kA m c) (Cert.QuantIdeal.Whole.vA m c) (Cert.QuantIdeal.Whole.pA m c), ?_, ?_⟩
  · refine (θ_run _ _ _).mono (fun r h c => ?_) (Cert.QuantIdeal.Value.run_blocks (F := Ideal) m g)
    obtain ⟨h0, h1, h2, ha⟩ := h c
    exact ⟨h0.trans (Cert.QuantIdeal.Whole.final4 m c (H c)), h1.trans (Cert.QuantIdeal.Whole.final5 m c (H c)),
      h2.trans (Cert.QuantIdeal.Whole.final6 m c (H c)), ha⟩
  · refine (θ_run _ _ _).mono (fun r h c => ?_) (Cert.QuantRefIdeal.Whole.run m' g')
    obtain ⟨h0, h1, h2, ha⟩ := h c
    obtain ⟨a0, a1, a2, a3⟩ := hargs c
    have e0 : Cert.QuantRefIdeal.Whole.qA m' c = Cert.QuantIdeal.Whole.qA m c := a0
    have e1 : Cert.QuantRefIdeal.Whole.kA m' c = Cert.QuantIdeal.Whole.kA m c := a1
    have e2 : Cert.QuantRefIdeal.Whole.vA m' c = Cert.QuantIdeal.Whole.vA m c := a2
    have e3 : Cert.QuantRefIdeal.Whole.pA m' c = Cert.QuantIdeal.Whole.pA m c := a3
    rw [e0, e1, e2, e3] at h0 h1 h2
    exact ⟨h0, h1, h2, ha⟩

end Cert.QuantClaim

end
-- ==== Proof.lean ====
/- The claims of this certificate, assembled: the frames are the generated runs; the values are proved in
   Proof/DgradClaim.lean and Proof/QuantClaim.lean. -/
module

public import proofs.«01_k».proof.Defs
public import proofs.«01_k».proof.Proof.Gen.Dgrad
public import proofs.«01_k».proof.Proof.Gen.Dgrad.Skeleton
public import proofs.«01_k».proof.Proof.Gen.Dgrad.Launch
public import proofs.«01_k».proof.Proof.Gen.Dgrad.Points
public import proofs.«01_k».proof.Proof.Gen.Dgrad.Frame
public import proofs.«01_k».proof.Proof.Gen.DgradIdeal
public import proofs.«01_k».proof.Proof.Gen.DgradIdeal.Skeleton
public import proofs.«01_k».proof.Proof.Gen.DgradIdeal.Launch
public import proofs.«01_k».proof.Proof.Gen.DgradIdeal.Points
public import proofs.«01_k».proof.Proof.Gen.DgradIdeal.Frame
public import proofs.«01_k».proof.Proof.Gen.DgradRefIdeal
public import proofs.«01_k».proof.Proof.Gen.DgradRefIdeal.Skeleton
public import proofs.«01_k».proof.Proof.Gen.DgradRefIdeal.Launch
public import proofs.«01_k».proof.Proof.Gen.DgradRefIdeal.Points
public import proofs.«01_k».proof.Proof.Gen.DgradRefIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.Pre_finite
public import proofs.«01_k».proof.Proof.Gen.QuantIdeal.Value
public import proofs.«01_k».proof.Proof.Gen.DgradIdeal.Value
public import proofs.«01_k».proof.Proof.Gen.QuantRefIdeal.Value
public import proofs.«01_k».proof.Proof.Gen.DgradRefIdeal.Value
public import proofs.«01_k».proof.Proof.DgradClaim
public import proofs.«01_k».proof.Proof.QuantClaim
public import Idealize.ShloMosaic.Lib.Bf16Pair
public import Idealize.ShloMosaic.Adequacy
public import Idealize.ShloMosaic.Init

@[expose] public section

noncomputable section

namespace Cert.Proof

open Idealize.ShloMosaic Idealize.SL.Sem

theorem preserves_Quant : Cert.preserves_Quant_QuantIdeal :=
  ⟨IdealRules.named_const.statement _ _ _ _ _ rfl, IdealRules.bf16_pair.statement _ _, IdealRules.bf16_pair.statement _ _⟩

theorem claim : Cert.Claim := ⟨Cert.Dgrad.Gen.facts, Cert.DgradIdeal.Gen.facts, Cert.DgradRefIdeal.Gen.facts, Cert.Quant.Gen.facts, Cert.QuantIdeal.Gen.facts, Cert.QuantRefIdeal.Gen.facts, Cert.Pre_finite.Gen.facts,
  fun m ρ _ => Cert.Dgrad.Gen.frame m ρ,
  fun m ρ _ => Cert.DgradIdeal.Gen.frame m ρ,
  fun m ρ _ => Cert.DgradRefIdeal.Gen.frame m ρ,
  fun m ρ _ => Cert.Quant.Gen.frame m ρ,
  fun m ρ _ => Cert.QuantIdeal.Gen.frame m ρ,
  fun m ρ _ => Cert.QuantIdeal.Gen.frame m ρ,
  fun m ρ _ => Cert.QuantRefIdeal.Gen.frame m ρ,
  fun m ρ _ => Cert.QuantRefIdeal.Gen.frame m ρ,
  trivial,
  Cert.DgradClaim.algebraic,
  preserves_Quant,
  Cert.QuantClaim.algebraic⟩

end Cert.Proof

end
